-- ==== Defs.lean ====
def Pre_Kernel [hPre_ids_sorted : Cert.Pre_ids_sorted.Facts] (m : (ℓ : Loc Cert.Kernel.nD Cert.Kernel.τ Cert.Kernel.sig) → Buf (Elt Bits) ℓ) : Prop :=
  ∀ c : Dev Cert.Kernel.nD,
    (Cert.Pre_ids_sorted.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).1 = (fun _ => 1#1)
    ∧ (Cert.Pre_ids_sorted.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2 = (fun _ => 1#1)

def Pre_KernelIdeal [hPre_ids_sorted : Cert.Pre_ids_sorted.Facts] (m : (ℓ : Loc Cert.KernelIdeal.nD Cert.KernelIdeal.τ Cert.KernelIdeal.sig) → Buf (Elt Ideal) ℓ) : Prop :=
  ∀ c : Dev Cert.KernelIdeal.nD,
    (Cert.Pre_ids_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_ids_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_sorted [hPre_ids_sorted : Cert.Pre_ids_sorted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_ids_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2 = (fun _ => 1#1)

def quiescent_Kernel [hKernel : Cert.Kernel.Facts] [hPre_ids_sorted : Cert.Pre_ids_sorted.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_ids_sorted : Cert.Pre_ids_sorted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_ids_sorted [hReferenceIdeal : Cert.ReferenceIdeal.Facts] [hPre_ids_sorted : Cert.Pre_ids_sorted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_sorted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_sorted : Cert.Pre_ids_sorted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_ids_sorted : Cert.Pre_ids_sorted.Facts),
    quiescent_Kernel (hKernel := hKernel) (hPre_ids_sorted := hPre_ids_sorted)
    ∧ quiescent_KernelIdeal (hKernelIdeal := hKernelIdeal) (hPre_ids_sorted := hPre_ids_sorted)
    ∧ quiescent_ReferenceIdeal (hReferenceIdeal := hReferenceIdeal)
    ∧ quiescent_ReferenceIdeal_pre_ids_sorted (hReferenceIdeal := hReferenceIdeal) (hPre_ids_sorted := hPre_ids_sorted)
    ∧ preserves_Kernel_KernelIdeal
    ∧ algebraic_KernelIdeal_ReferenceIdeal (hKernelIdeal := hKernelIdeal) (hReferenceIdeal := hReferenceIdeal) (hPre_ids_sorted := hPre_ids_sorted)
-- ==== Pre_ids_sorted.lean ====
abbrev S2x128x151936 : Shape := ⟨3, ![2, 128, 151936]⟩
abbrev S2x128x16 : Shape := ⟨3, ![2, 128, 16]⟩
abbrev S2x128x1024 : Shape := ⟨3, ![2, 128, 1024]⟩
abbrev S2x128 : Shape := ⟨2, ![2, 128]⟩
abbrev S256x1024 : Shape := ⟨2, ![256, 1024]⟩
abbrev S256 : Shape := ⟨1, ![256]⟩
abbrev S_ : Shape := ⟨0, ![]⟩
abbrev S255 : Shape := ⟨1, ![255]⟩

class Facts : Prop where
  bcast_S_S256 : S_.BroadcastsInDim S256 (![] : Fin 0 → Fin S256.rank)
  slices_S256_S255_1 : S256.Slices ![1] S255
  slices_S256_S255_0 : S256.Slices ![0] S255

variable [Facts]

def fn {F : FTy → Type} [FloatOps F] (main_arg0 : FVec F S2x128x151936 .fp8e5m2) (main_arg1 : FVec F S2x128x16 .f32) (main_arg2 : FVec F S2x128x1024 .fp8e4m3) (main_arg3 : FVec F S2x128 .f32) (main_arg4 : FVec F S256x1024 .fp8e5m2) (main_arg5 : FVec F S256 .f32) (main_arg6 : IVec S256 32) : IVec S256 1 × IVec S255 1 :=
  let main_c : IVec S_ 32 := constantI S_ 32 0#32
  let main_v0 : IVec S256 32 := broadcastInDim S256 ![] bcast_S_S256 main_c
  let main_v1 : IVec S256 1 := cmpi .sge main_arg6 main_v0
  let main_v2 : IVec S255 32 := (extractStridedSlice S255 ![1] · slices_S256_S255_1) main_arg6
  let main_v3 : IVec S255 32 := (extractStridedSlice S255 ![0] · slices_S256_S255_0) main_arg6
  let main_v4 : IVec S255 1 := cmpi .sge main_v2 main_v3
  (main_v1, main_v4)
-- ==== Kernel.lean ====
abbrev S2x128x151936 : Shape := ⟨3, ![2, 128, 151936]⟩
abbrev S2x128x16 : Shape := ⟨3, ![2, 128, 16]⟩
abbrev S2x128x1024 : Shape := ⟨3, ![2, 128, 1024]⟩
abbrev S2x128 : Shape := ⟨2, ![2, 128]⟩
abbrev S256x1024 : Shape := ⟨2, ![256, 1024]⟩
abbrev S256 : Shape := ⟨1, ![256]⟩
abbrev S151936x1024 : Shape := ⟨2, ![151936, 1024]⟩
abbrev S1024x1024 : Shape := ⟨2, ![1024, 1024]⟩
abbrev S16x256 : Shape := ⟨2, ![16, 256]⟩
abbrev S1 : Shape := ⟨1, ![1]⟩
abbrev S1x128 : Shape := ⟨2, ![1, 128]⟩
abbrev S128x128 : Shape := ⟨2, ![128, 128]⟩
abbrev S1x128x128 : Shape := ⟨3, ![1, 128, 128]⟩
abbrev S1x128x16 : Shape := ⟨3, ![1, 128, 16]⟩
abbrev S128x16 : Shape := ⟨2, ![128, 16]⟩
abbrev S16x128 : Shape := ⟨2, ![16, 128]⟩
abbrev S256x256 : Shape := ⟨2, ![256, 256]⟩
abbrev S1x256 : Shape := ⟨2, ![1, 256]⟩
abbrev S1x128x256 : Shape := ⟨3, ![1, 128, 256]⟩
abbrev S128x256 : Shape := ⟨2, ![128, 256]⟩
abbrev S1x1024 : Shape := ⟨2, ![1, 1024]⟩

abbrev nBuf : Space → Nat
  | .hbm => 8
  | .vmem => 11
  | .smem => 3
  | _ => 0

abbrev bufTy : (tb : Table) → Fin (tcTables nBuf tb) → BufTy
  | .hbm, ⟨0, _⟩ => ⟨S2x128x151936, .fp8e5m2⟩
  | .hbm, ⟨1, _⟩ => ⟨S2x128x16, .f32⟩
  | .hbm, ⟨2, _⟩ => ⟨S2x128x1024, .fp8e4m3⟩
  | .hbm, ⟨3, _⟩ => ⟨S2x128, .f32⟩
  | .hbm, ⟨4, _⟩ => ⟨S256x1024, .fp8e5m2⟩
  | .hbm, ⟨5, _⟩ => ⟨S256, .f32⟩
  | .hbm, ⟨6, _⟩ => ⟨S256, .i32⟩
  | .hbm, ⟨7, _⟩ => ⟨S151936x1024, .f32⟩
  | .local _ .vmem, ⟨0, _⟩ => ⟨S2x128x1024, .fp8e5m2⟩
  | .local _ .vmem, ⟨1, _⟩ => ⟨S2x128x1024, .fp8e5m2⟩
  | .local _ .vmem, ⟨2, _⟩ => ⟨S2x128x16, .f32⟩
  | .local _ .vmem, ⟨3, _⟩ => ⟨S2x128x1024, .fp8e4m3⟩
  | .local _ .vmem, ⟨4, _⟩ => ⟨S2x128, .f32⟩
  | .local _ .vmem, ⟨5, _⟩ => ⟨S256x1024, .fp8e5m2⟩
  | .local _ .vmem, ⟨6, _⟩ => ⟨S1024x1024, .f32⟩
  | .local _ .vmem, ⟨7, _⟩ => ⟨S1024x1024, .f32⟩
  | .local _ .vmem, ⟨8, _⟩ => ⟨S256x1024, .bf16⟩
  | .local _ .vmem, ⟨9, _⟩ => ⟨S16x256, .f32⟩
  | .local _ .vmem, ⟨10, _⟩ => ⟨S256x1024, .f32⟩
  | .local _ .smem, ⟨0, _⟩ => ⟨S256, .i32⟩
  | .local _ .smem, ⟨1, _⟩ => ⟨S256, .f32⟩
  | .local _ .smem, ⟨2, _⟩ => ⟨S1, .i32⟩
  | _, _ => ⟨S2x128x151936, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg7_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 0, rfl⟩
abbrev cc0_stg1_0 : Ref sig .tc := ⟨.smem, 1, rfl⟩
abbrev cc0_scratch3 : Ref sig .tc := ⟨.smem, 2, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![149], ![false]⟩

def k0_off1 (i : grid0.Coords) (c0_i32_1 : BitVec 32) : Fin 2 → Nat :=
  let arg0 : BitVec 32 := BitVec.ofNat 32 (i 0).val
  let c1024_i32 : BitVec 32 := 1024#32
  let v3 : BitVec 32 := Scalar.muli arg0 c1024_i32
  let v4 : BitVec 32 := Scalar.addi v3 c0_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c9496_i32 : BitVec 32 := 9496#32
  let c0_i32_4 : BitVec 32 := 0#32
  let v11 : BitVec 1 := Scalar.cmpi .sgt c9496_i32 c0_i32_4
  let v12 : BitVec 32 := Scalar.extui v11
  let c0_i32_5 : BitVec 32 := 0#32
  let v13 : BitVec 1 := Scalar.cmpi .slt c9496_i32 c0_i32_5
  let v14 : BitVec 32 := Scalar.extui v13
  let v15 : BitVec 32 := Scalar.subi v12 v14
  let v16 : BitVec 1 := Scalar.cmpi .ne v10 v15
  let v17 : BitVec 32 := Scalar.remsi v4 c9496_i32
  let c0_i32_6 : BitVec 32 := 0#32
  let v18 : BitVec 1 := Scalar.cmpi .ne v17 c0_i32_6
  let v19 : BitVec 1 := Scalar.andi v16 v18
  let v5 : BitVec 32 := Scalar.divsi v4 c9496_i32
  let c1_i32 : BitVec 32 := 1#32
  let v20 : BitVec 32 := Scalar.subi v5 c1_i32
  let v21 : BitVec 32 := Scalar.select v19 v20 v5
  let c15_i32 : BitVec 32 := 15#32
  let v22 : BitVec 32 := Scalar.minsi v21 c15_i32
  let v31 : Index := Scalar.indexCast v22
  let c0 : Index := 0#32
  ![v31.toNat, 0]
def k0_off2 (i : grid0.Coords) (c0_i32_1 : BitVec 32) : Fin 2 → Nat :=
  let arg0 : BitVec 32 := BitVec.ofNat 32 (i 0).val
  let c1024_i32 : BitVec 32 := 1024#32
  let v3 : BitVec 32 := Scalar.muli arg0 c1024_i32
  let v4 : BitVec 32 := Scalar.addi v3 c0_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c9496_i32 : BitVec 32 := 9496#32
  let c0_i32_4 : BitVec 32 := 0#32
  let v11 : BitVec 1 := Scalar.cmpi .sgt c9496_i32 c0_i32_4
  let v12 : BitVec 32 := Scalar.extui v11
  let c0_i32_5 : BitVec 32 := 0#32
  let v13 : BitVec 1 := Scalar.cmpi .slt c9496_i32 c0_i32_5
  let v14 : BitVec 32 := Scalar.extui v13
  let v15 : BitVec 32 := Scalar.subi v12 v14
  let v16 : BitVec 1 := Scalar.cmpi .ne v10 v15
  let v17 : BitVec 32 := Scalar.remsi v4 c9496_i32
  let c0_i32_6 : BitVec 32 := 0#32
  let v18 : BitVec 1 := Scalar.cmpi .ne v17 c0_i32_6
  let v19 : BitVec 1 := Scalar.andi v16 v18
  let v5 : BitVec 32 := Scalar.divsi v4 c9496_i32
  let c1_i32 : BitVec 32 := 1#32
  let v20 : BitVec 32 := Scalar.subi v5 c1_i32
  let v21 : BitVec 32 := Scalar.select v19 v20 v5
  let c15_i32 : BitVec 32 := 15#32
  let v22 : BitVec 32 := Scalar.minsi v21 c15_i32
  let c1_i32_7 : BitVec 32 := 1#32
  let v23 : BitVec 32 := Scalar.addi v22 c1_i32_7
  let c15_i32_8 : BitVec 32 := 15#32
  let v24 : BitVec 32 := Scalar.minsi v23 c15_i32_8
  let v33 : Index := Scalar.indexCast v24
  let c0_11 : Index := 0#32
  ![v33.toNat, 0]
def k0_off3 (arg13 : BitVec 32) : Fin 1 → Nat :=
  let c255_i32 : BitVec 32 := 255#32
  let v209 : BitVec 32 := Scalar.minsi arg13 c255_i32
  let v210 : Index := Scalar.indexCast v209
  ![v210.toNat]

def k0_chk1 (arg13 : BitVec 32) : Prop :=
  (∀ a, (k0_off3 arg13) a + S1.size a ≤ S256.size a)
theorem k0_off3_inb : ∀ (arg13 : BitVec 32) (k0_hw1 : k0_chk1 arg13), ∀ a, (k0_off3 arg13) a + S1.size a ≤ S256.size a := fun arg13 k0_hw1 => k0_hw1

def k0_off4 (arg13 : BitVec 32) : Fin 1 → Nat :=
  let v208 : Index := Scalar.indexCast arg13
  ![v208.toNat]

def k0_off5 (i : grid0.Coords) (v209 : BitVec 32) : Fin 2 → Nat :=
  let arg0 : BitVec 32 := BitVec.ofNat 32 (i 0).val
  let c1024_i32_96 : BitVec 32 := 1024#32
  let v203 : BitVec 32 := Scalar.muli arg0 c1024_i32_96
  let v210 : BitVec 32 := Scalar.subi v209 v203
  let v211 : Index := Scalar.indexCast v210
  let c0_100 : Index := 0#32
  ![v211.toNat, 0]

def k0_chk3 (i : grid0.Coords) (v209 : BitVec 32) : Prop :=
  (∀ a, (k0_off5 i v209) a + S1x1024.size a ≤ S1024x1024.size a)
theorem k0_off5_inb : ∀ (i : grid0.Coords) (v209 : BitVec 32) (k0_hw3 : k0_chk3 i v209), ∀ a, (k0_off5 i v209) a + S1x1024.size a ≤ S1024x1024.size a := fun i v209 k0_hw3 => k0_hw3

def k0_off6 (arg13 : BitVec 32) : Fin 2 → Nat :=
  let v214 : Index := Scalar.indexCast arg13
  let c0_101 : Index := 0#32
  ![v214.toNat, 0]
def k0_off7 (arg13 : BitVec 32) : Fin 1 → Nat :=
  let v216 : Index := Scalar.indexCast arg13
  ![v216.toNat]

def k0_chk2 (arg13 : BitVec 32) : Prop :=
  (∀ a, (k0_off4 arg13) a + S1.size a ≤ S256.size a) ∧
  (∀ a, (k0_off6 arg13) a + S1x1024.size a ≤ S256x1024.size a) ∧
  (∀ a, (k0_off7 arg13) a + S1.size a ≤ S256.size a)
theorem k0_off4_inb : ∀ (arg13 : BitVec 32) (k0_hw2 : k0_chk2 arg13), ∀ a, (k0_off4 arg13) a + S1.size a ≤ S256.size a := fun arg13 k0_hw2 => k0_hw2.1
theorem k0_off6_inb : ∀ (arg13 : BitVec 32) (k0_hw2 : k0_chk2 arg13), ∀ a, (k0_off6 arg13) a + S1x1024.size a ≤ S256x1024.size a := fun arg13 k0_hw2 => k0_hw2.2.1
theorem k0_off7_inb : ∀ (arg13 : BitVec 32) (k0_hw2 : k0_chk2 arg13), ∀ a, (k0_off7 arg13) a + S1.size a ≤ S256.size a := fun arg13 k0_hw2 => k0_hw2.2.2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x128x1024 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x128x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x128x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2x128x151936 : Shape := ⟨3, ![2, 128, 151936]⟩
abbrev S2x128x16 : Shape := ⟨3, ![2, 128, 16]⟩
abbrev S2x128x1024 : Shape := ⟨3, ![2, 128, 1024]⟩
abbrev S2x128 : Shape := ⟨2, ![2, 128]⟩
abbrev S256x1024 : Shape := ⟨2, ![256, 1024]⟩
abbrev S256 : Shape := ⟨1, ![256]⟩
abbrev S2x128x16x9496 : Shape := ⟨4, ![2, 128, 16, 9496]⟩
abbrev S2x128x16x1 : Shape := ⟨4, ![2, 128, 16, 1]⟩
abbrev S2x128x1 : Shape := ⟨3, ![2, 128, 1]⟩
abbrev S151936x1024 : Shape := ⟨2, ![151936, 1024]⟩
abbrev S256x1 : Shape := ⟨2, ![256, 1]⟩
abbrev S_ : Shape := ⟨0, ![]⟩

abbrev nBuf : Space → Nat
  | .hbm => 29
  | .vmem => 6
  | .smem => 0
  | _ => 0

abbrev bufTy : (tb : Table) → Fin (tcTables nBuf tb) → BufTy
  | .hbm, ⟨0, _⟩ => ⟨S2x128x151936, .fp8e5m2⟩
  | .hbm, ⟨1, _⟩ => ⟨S2x128x16, .f32⟩
  | .hbm, ⟨2, _⟩ => ⟨S2x128x1024, .fp8e4m3⟩
  | .hbm, ⟨3, _⟩ => ⟨S2x128, .f32⟩
  | .hbm, ⟨4, _⟩ => ⟨S256x1024, .fp8e5m2⟩
  | .hbm, ⟨5, _⟩ => ⟨S256, .f32⟩
  | .hbm, ⟨6, _⟩ => ⟨S256, .i32⟩
  | .hbm, ⟨7, _⟩ => ⟨S2x128x151936, .bf16⟩
  | .hbm, ⟨8, _⟩ => ⟨S2x128x1024, .bf16⟩
  | .hbm, ⟨9, _⟩ => ⟨S256x1024, .f32⟩
  | .hbm, ⟨10, _⟩ => ⟨S2x128x16x9496, .bf16⟩
  | .hbm, ⟨11, _⟩ => ⟨S2x128x16, .bf16⟩
  | .hbm, ⟨12, _⟩ => ⟨S2x128x16x1, .bf16⟩
  | .hbm, ⟨13, _⟩ => ⟨S2x128x16x9496, .bf16⟩
  | .hbm, ⟨14, _⟩ => ⟨S2x128x16x9496, .bf16⟩
  | .hbm, ⟨15, _⟩ => ⟨S2x128x151936, .bf16⟩
  | .hbm, ⟨16, _⟩ => ⟨S2x128, .bf16⟩
  | .hbm, ⟨17, _⟩ => ⟨S2x128x1, .bf16⟩
  | .hbm, ⟨18, _⟩ => ⟨S2x128x1024, .bf16⟩
  | .hbm, ⟨19, _⟩ => ⟨S2x128x1024, .bf16⟩
  | .hbm, ⟨20, _⟩ => ⟨S151936x1024, .f32⟩
  | .hbm, ⟨21, _⟩ => ⟨S256x1, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S151936x1024, .f32⟩
  | .hbm, ⟨26, _⟩ => ⟨S256x1, .i32⟩
  | .hbm, ⟨27, _⟩ => ⟨S151936x1024, .f32⟩
  | .hbm, ⟨28, _⟩ => ⟨S151936x1024, .f32⟩
  | .local _ .vmem, ⟨0, _⟩ => ⟨S2x128x151936, .fp8e5m2⟩
  | .local _ .vmem, ⟨1, _⟩ => ⟨S2x128x1024, .fp8e4m3⟩
  | .local _ .vmem, ⟨2, _⟩ => ⟨S256x1024, .fp8e5m2⟩
  | .local _ .vmem, ⟨3, _⟩ => ⟨S2x128x151936, .bf16⟩
  | .local _ .vmem, ⟨4, _⟩ => ⟨S2x128x1024, .bf16⟩
  | .local _ .vmem, ⟨5, _⟩ => ⟨S256x1024, .f32⟩
  | _, _ => ⟨S2x128x151936, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x128x151936 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x151936 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Lib.Count.lean ====
/-
  A sorted list of 256 ids held as 32-bit words, and the position below which its entries are under a bound: the entries
  below a bound are exactly those at positions less than `cnt`.
-/
module

public import Idealize.ShloMosaic.Lib.Memref
public import Idealize.ShloMosaic.Lib.WordArith

@[expose] public section

namespace Cert.Proof.Ids

open Idealize.ShloMosaic

/-- The shape of a list of 256 words. -/
abbrev S256 : Shape := ⟨1, ![256]⟩

/-- The index of position `q`. -/
def at1 (q : ℕ) (h : q < 256) : S256.Idx := fun a => ⟨q, by fin_cases a; exact h⟩

/-- The id at position `q` as a natural number (past the list, zero). -/
def idn (ids : S256.Idx → BitVec 32) (q : ℕ) : ℕ := if h : q < 256 then (ids (at1 q h)).toNat else 0

theorem idn_of_lt (ids : S256.Idx → BitVec 32) (q : ℕ) (h : q < 256) : idn ids q = (ids (at1 q h)).toNat := dif_pos h

/-- The ids are non-negative as signed words and in ascending order. -/
structure Ok (ids : S256.Idx → BitVec 32) : Prop where
  nonneg : ∀ q, q < 256 → idn ids q < 2 ^ 31
  mono : ∀ q q', q ≤ q' → q' < 256 → idn ids q ≤ idn ids q'

open Classical in
/-- How many leading ids are below `b`: the first position that is past the list or holds an id not below `b`. -/
noncomputable def cnt (ids : S256.Idx → BitVec 32) (b : ℕ) : ℕ :=
  Nat.find (p := fun p => 256 ≤ p ∨ b ≤ idn ids p) ⟨256, .inl le_rfl⟩

theorem cnt_le (ids : S256.Idx → BitVec 32) (b : ℕ) : cnt ids b ≤ 256 := by
  classical
  exact Nat.find_min' _ (.inl le_rfl)

theorem lt_of_lt_cnt {ids : S256.Idx → BitVec 32} {b q : ℕ} (h : q < cnt ids b) : idn ids q < b := by
  classical
  have := Nat.find_min (p := fun p => 256 ≤ p ∨ b ≤ idn ids p) _ h
  omega

theorem le_of_cnt_le {ids : S256.Idx → BitVec 32} (ok : Ok ids) {b q : ℕ} (h : cnt ids b ≤ q) (hq : q < 256) : b ≤ idn ids q := by
  classical
  have h0 := Nat.find_spec (p := fun p => 256 ≤ p ∨ b ≤ idn ids p) ⟨256, .inl le_rfl⟩
  have h1 := ok.mono _ _ h hq
  change 256 ≤ cnt ids b ∨ b ≤ idn ids (cnt ids b) at h0
  omega

/-- A position is before `cnt` exactly when its id is below the bound. -/
theorem lt_cnt_iff {ids : S256.Idx → BitVec 32} (ok : Ok ids) {b q : ℕ} (hq : q < 256) : q < cnt ids b ↔ idn ids q < b :=
  ⟨lt_of_lt_cnt, fun h => by
    by_contra hn
    have := le_of_cnt_le ok (not_lt.mp hn) hq
    omega⟩

theorem cnt_zero (ids : S256.Idx → BitVec 32) : cnt ids 0 = 0 := by
  classical
  have := Nat.find_min' (p := fun p => 256 ≤ p ∨ 0 ≤ idn ids p) ⟨256, .inl le_rfl⟩ (m := 0) (.inr (Nat.zero_le _))
  exact Nat.le_zero.mp this

theorem cnt_mono (ids : S256.Idx → BitVec 32) {b b' : ℕ} (h : b ≤ b') : cnt ids b ≤ cnt ids b' := by
  by_contra hn
  have hlt := lt_of_lt_cnt (not_le.mp hn)
  classical
  have h0 := Nat.find_spec (p := fun p => 256 ≤ p ∨ b' ≤ idn ids p) ⟨256, .inl le_rfl⟩
  change 256 ≤ cnt ids b' ∨ b' ≤ idn ids (cnt ids b') at h0
  have := cnt_le ids b
  omega

end Cert.Proof.Ids
-- ==== Proof.Lib.Pre.lean ====
/-
  The precondition read as a fact about the list of ids: every id is non-negative and none is below the one before it.
-/
module

public import proofs.«01_k».proof.Pre_ids_sorted
public import proofs.«01_k».proof.Proof.Gen.Pre_ids_sorted
public import proofs.«01_k».proof.Proof.Lib.Count
public import Idealize.ShloMosaic.Lib.Pointwise

@[expose] public section

namespace Cert.Proof.Pre

open Idealize.ShloMosaic Cert.Proof

/-- A one-bit word made from a truth value is one only if the value is true. -/
theorem true_of_bit {b : Bool} (h : BitVec.ofBool b = 1#1) : b = true := by
  cases b
  · exact absurd h (by decide)
  · rfl

/-- A signed comparison with zero that answers yes: the word is below 2^31 as a natural number. -/
theorem nat_of_sge_zero (a : BitVec 32) (h : IntOp.cmpi .sge a 0#32 = 1#1) : a.toNat < 2 ^ 31 := by
  have h' : BitVec.sle 0#32 a = true := true_of_bit h
  rw [BitVec.sle_iff_toInt_le] at h'
  have : (0 : Int) ≤ a.toInt := by simpa using h'
  rw [BitVec.toInt_eq_toNat_cond] at this
  split at this <;> omega

/-- A signed comparison of non-negative words that answers yes orders them as natural numbers. -/
theorem nat_of_sge (a b : BitVec 32) (ha : a.toNat < 2 ^ 31) (hb : b.toNat < 2 ^ 31) (h : IntOp.cmpi .sge a b = 1#1) :
    b.toNat ≤ a.toNat := by
  have h' : BitVec.sle b a = true := true_of_bit h
  rw [BitVec.sle_iff_toInt_le, BitVec.toInt_eq_toNat_cond, BitVec.toInt_eq_toNat_cond] at h'
  split at h' <;> split at h' <;> omega

variable {F : FTy → Type} [FloatOps F]

/-- The precondition's two vectors of answers, all one, say the ids are non-negative and in ascending order. -/
theorem ok_of_pre (x0 : FVec F Pre_ids_sorted.S2x128x151936 .fp8e5m2) (x1 : FVec F Pre_ids_sorted.S2x128x16 .f32)
    (x2 : FVec F Pre_ids_sorted.S2x128x1024 .fp8e4m3) (x3 : FVec F Pre_ids_sorted.S2x128 .f32)
    (x4 : FVec F Pre_ids_sorted.S256x1024 .fp8e5m2) (x5 : FVec F Pre_ids_sorted.S256 .f32) (ids : IVec Pre_ids_sorted.S256 32)
    (h1 : (Pre_ids_sorted.fn x0 x1 x2 x3 x4 x5 ids).1 = fun _ => 1#1)
    (h2 : (Pre_ids_sorted.fn x0 x1 x2 x3 x4 x5 ids).2 = fun _ => 1#1) : Ids.Ok ids := by
  have nn : ∀ q (h : q < 256), (ids (Ids.at1 q h)).toNat < 2 ^ 31 := fun q h =>
    nat_of_sge_zero _ (congrFun h1 (Ids.at1 q h))
  have step : ∀ q, q + 1 < 256 → Ids.idn ids q ≤ Ids.idn ids (q + 1) := fun q h => by
    rw [Ids.idn_of_lt ids q (by omega), Ids.idn_of_lt ids (q + 1) h]
    have e := congrFun h2 (fun a => ⟨q, by fin_cases a; show q < 255; omega⟩)
    refine nat_of_sge _ _ (nn _ _) (nn _ _) (Eq.trans ?_ e)
    refine congrArg₂ (IntOp.cmpi .sge) (congrArg ids ?_) (congrArg ids ?_)
    · funext a; fin_cases a; exact Fin.ext (by show q + 1 = 1 + q; omega)
    · funext a; fin_cases a; exact Fin.ext (by show q = 0 + q; omega)
  refine ⟨fun q h => by rw [Ids.idn_of_lt ids q h]; exact nn q h, fun q q' hq h => ?_⟩
  induction q', hq using Nat.le_induction with
  | base => exact le_rfl
  | succ n hn ih => exact (ih (by omega)).trans (step n h)

end Cert.Proof.Pre
-- ==== Proof.Lib.Owned.lean ====
/-
  Loads and stores of a memref that is held by the value it reads (`owns`): a load through a unit-stride rectangle reads
  the window of that value at the rectangle's offsets, a store puts its payload over that window. Stated for any memref,
  so a kernel body stepped with them never names the buffer behind a memref or the staging slot it sits in.
-/
module

public import Idealize.ShloMosaic.Lib.Memref
public import Idealize.ShloMosaic.Lib.VecWindow
public import Idealize.ShloMosaic.Lib.Tactic
public import Idealize.ShloMosaic.Lib.Pipeline.FrameBody

@[expose] public section

noncomputable section

namespace Cert.Proof.Owned

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}
variable {Ix : Type} [DecidableEq Ix] {Name : Type} [DecidableEq Name] {U : Type} [URA U] {Lvl : Type} [Preorder Lvl]

local notation "𝕄" => MT nD τ sig Ix Val Name U Lvl

variable {defs : Defs nD τ sig Val Λ} (𝒱 : Variants) (c : Thread nD τ) (bd : Option 𝒱.V) (E : Set Name)
variable {s : Shape} {e : EltTy} {α : Type}
variable {Q : α → sProp (MT nD τ sig Ix Val Name U Lvl)}

/-- A load through the unit-stride rectangle at `off`: the program continues at the window of what the memref reads. -/
theorem load {cs : CoreSpace} {m : Memref sig c.2.kind cs s e} {off size : Fin s.rank → ℕ} {inb : ∀ a, off a + size a ≤ s.size a}
    {hl : m.view.LoadsAt (Rect.unit (s := s) off size inb).toLoadRect}
    {k : ((Rect.unit (s := s) off size inb).toLoadRect.shape.Idx → Val e) → Prog (TpuEff nD τ sig Val Λ c.2) α}
    {q : PosShare TreeShare} {X : s.Idx → Val e} :
    (owns c m q X : sProp 𝕄)
      ⊢ iprop((owns c m q X -∗ wp frame (wpE defs 𝒱 c bd) E (k (VecWindow.window X off size inb)) Q)
        -∗ wp frame (wpE defs 𝒱 c bd) E (.op (.load m (Rect.unit off size inb).toLoadRect hl) k) Q) := by
  unfold owns
  iintro ⟨%f, %hf, H⟩ Hk
  subst hf
  iapply (wp_load 𝒱 c bd E (m := m) (f := f) (q := q) (Q := Q) (m.view.setOn_subset_set _)) $$ H
  iintro H
  iapply Hk
  iexists f
  isplitr; · ipureintro; rfl
  iexact H

/-- A whole store through the unit-stride rectangle at `off`: the payload is put over the window of what the memref reads. -/
theorem store {cs : CoreSpace} {m : Memref sig c.2.kind cs s e} {off size : Fin s.rank → ℕ} {inb : ∀ a, off a + size a ≤ s.size a}
    {w : (Rect.unit (s := s) off size inb).shape.Idx → Val e}
    {hx : (m.access (Rect.unit (s := s) off size inb)).Stores Finset.univ}
    {hm : (Finset.univ : Finset (Rect.unit (s := s) off size inb).shape.Idx) = Finset.univ ∨ ∀ a, (Rect.unit (s := s) off size inb).stride a = 1}
    {k : PUnit → Prog (TpuEff nD τ sig Val Λ c.2) α} {X : s.Idx → Val e} :
    (owns c m fullShare X : sProp 𝕄)
      ⊢ iprop((owns c m fullShare (VecWindow.put X off size w) -∗ wp frame (wpE defs 𝒱 c bd) E (k ⟨⟩) Q)
        -∗ wp frame (wpE defs 𝒱 c bd) E (.op (.store m (Rect.unit off size inb) w Finset.univ hx hm) k) Q) := by
  unfold owns
  iintro ⟨%f, %hf, H⟩ Hk
  subst hf
  have hS : (m.access (Rect.unit (s := s) off size inb)).setOn Finset.univ ⊆ m.view.set :=
    (m.setOn_access_subset_setOn _ _).trans (m.view.setOn_subset_set _)
  iapply (wp_store 𝒱 c bd E (m := m) (f := f) (w := w) (hx := hx) (hm := hm) (k := k) (Q := Q) hS) $$ H
  iintro H
  iapply Hk
  iexists _
  isplitr
  swap; · iexact H
  ipureintro
  exact View.read_writes_cons_put m.view f inb w [] rfl

end Cert.Proof.Owned

end
-- ==== Proof.K.Loop.lean ====
/-
  The kernel's while loop. It walks the sorted ids from the position `j` it is given as long as an id lies below the end
  of the block's 1024 rows, and adds the id's scaled embedding row to that row of the block. Called at the first position
  whose id is not below the block's start, it reaches the first position whose id is not below the block's end, and every
  row it touches lies inside the block.
-/
module

public import proofs.«01_k».proof.Proof.Gen.Kernel.Skeleton
public import proofs.«01_k».proof.Proof.Gen.Kernel.Launch
public import proofs.«01_k».proof.Proof.Lib.Owned
public import proofs.«01_k».proof.Proof.Lib.Count
public import Idealize.ShloMosaic.Lib.Tactic

@[expose] public section

noncomputable section

namespace Cert.Proof.K

open Cert.Kernel Cert.Kernel.Gen Cert.Proof

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.WordArith

variable {F : FTy → Type} [FloatOps F]

/-- The ghost algebra: the rounds library's over the machine's cells, duties named by `Unit`. -/
abbrev UR (nD : Nat) (τ : Topo) : Type := URounds (GSem nD τ sig) Unit

local notation "𝕄" => MT nD τ sig Unit (Elt F) ℕ (UR nD τ) ℕ

/-- The loop's variant: the number of trips still to run. -/
abbrev 𝒱₀ : Variants := Variants.nat

/-! ## The words -/

/-- The block's first row. -/
def base (i : grid0.Coords) : ℕ := 1024 * (i 0).val

theorem i_lt (i : grid0.Coords) : (i 0).val < 149 := (i 0).isLt

/-- The index of the one word of a one-word load. -/
abbrev one : S1.Idx := Shape.Idx.first (numel1_S1.symm ▸ Nat.one_pos)

theorem one_val (a : Fin 1) : (one a).val = 0 := by
  have := (one a).isLt
  have h : S1.size a = 1 := by fin_cases a; rfl
  omega

theorem toInt_small {x : BitVec 32} (h : x.toNat < 2 ^ 31) : x.toInt = x.toNat := by
  rw [BitVec.toInt_eq_toNat_of_lt (by omega)]

theorem slt_iff {x y : BitVec 32} (hx : x.toNat < 2 ^ 31) (hy : y.toNat < 2 ^ 31) :
    Scalar.cmpi .slt x y = BitVec.ofBool (decide (x.toNat < y.toNat)) := by
  show BitVec.ofBool (x.slt y) = _
  rw [BitVec.slt_eq_decide, toInt_small hx, toInt_small hy]
  congr 1; simp

theorem off3_eq (p : ℕ) (hp : p ≤ 256) : k0_off3 (BitVec.ofNat 32 p) 0 = min p 255 := by
  show (IntOp.minsi (BitVec.ofNat 32 p) 255#32).toNat = _
  rw [toNat_minsi_of_lt _ _ (by rw [BitVec.toNat_ofNat]; omega) (by decide), BitVec.toNat_ofNat]
  show min (p % 2 ^ 32) 255 = _
  omega

theorem off4_eq (p : ℕ) (hp : p ≤ 256) : k0_off4 (BitVec.ofNat 32 p) 0 = p := by
  show (BitVec.ofNat 32 p).toNat = _
  rw [BitVec.toNat_ofNat]; omega

theorem off6_eq (p : ℕ) (hp : p ≤ 256) : k0_off6 (BitVec.ofNat 32 p) 0 = p := by
  show (BitVec.ofNat 32 p).toNat = _
  rw [BitVec.toNat_ofNat]; omega

theorem off7_eq (p : ℕ) (hp : p ≤ 256) : k0_off7 (BitVec.ofNat 32 p) 0 = p := by
  show (BitVec.ofNat 32 p).toNat = _
  rw [BitVec.toNat_ofNat]; omega

theorem chk1_ok (p : ℕ) (hp : p ≤ 256) : k0_chk1 (BitVec.ofNat 32 p) := by
  intro a
  fin_cases a
  show k0_off3 (BitVec.ofNat 32 p) 0 + 1 ≤ 256
  rw [off3_eq p hp]; omega

theorem chk2_ok (p : ℕ) (hp : p < 256) : k0_chk2 (BitVec.ofNat 32 p) := by
  refine ⟨?_, ?_, ?_⟩
  · intro a; fin_cases a
    show k0_off4 (BitVec.ofNat 32 p) 0 + 1 ≤ 256
    rw [off4_eq p hp.le]; omega
  · intro a; fin_cases a
    · show k0_off6 (BitVec.ofNat 32 p) 0 + 1 ≤ 256
      rw [off6_eq p hp.le]; omega
    · show 0 + 1024 ≤ 1024
      omega
  · intro a; fin_cases a
    show k0_off7 (BitVec.ofNat 32 p) 0 + 1 ≤ 256
    rw [off7_eq p hp.le]; omega

theorem base_toNat (i : grid0.Coords) : (Scalar.muli (BitVec.ofNat 32 (i 0).val) 1024#32).toNat = base i := by
  have := i_lt i
  show (BitVec.ofNat 32 (i 0).val * 1024#32).toNat = _
  rw [BitVec.toNat_mul, BitVec.toNat_ofNat]
  show (i 0).val % 2 ^ 32 * 1024 % 2 ^ 32 = 1024 * (i 0).val
  omega

theorem end_toNat (i : grid0.Coords) :
    (Scalar.addi (Scalar.muli (BitVec.ofNat 32 (i 0).val) 1024#32) 1024#32).toNat = base i + 1024 := by
  have := i_lt i
  have hb := base_toNat i
  show (Scalar.muli (BitVec.ofNat 32 (i 0).val) 1024#32 + 1024#32).toNat = _
  rw [BitVec.toNat_add, hb]
  unfold base
  show (1024 * (i 0).val + 1024) % 2 ^ 32 = _
  omega

theorem off5_eq (i : grid0.Coords) (w : BitVec 32) (h : base i ≤ w.toNat) : k0_off5 i w 0 = w.toNat - base i := by
  have hb := base_toNat i
  have := w.isLt
  show (w - Scalar.muli (BitVec.ofNat 32 (i 0).val) 1024#32).toNat = _
  rw [BitVec.toNat_sub_of_le (by rw [BitVec.le_def, hb]; exact h), hb]

theorem chk3_ok (i : grid0.Coords) (w : BitVec 32) (h : base i ≤ w.toNat) (h' : w.toNat < base i + 1024) : k0_chk3 i w := by
  intro a; fin_cases a
  · show k0_off5 i w 0 + 1 ≤ 1024
    rw [off5_eq i w h]; omega
  · show 0 + 1024 ≤ 1024
    omega

/-- The word a one-word load at position `q` reads. -/
theorem window_at {α : Type} (x : S256.Idx → α) (off : Fin 1 → ℕ) (inb : ∀ a, off a + S1.size a ≤ S256.size a) (q : ℕ) (h : off 0 = q) (hq : q < 256) :
    VecWindow.window (s := S256) x off S1.size inb one = x (Ids.at1 q hq) := by
  refine congrArg x (funext fun a => Fin.ext ?_)
  fin_cases a
  show off 0 + 1 * (one 0).val = q
  rw [one_val 0]; omega

/-! ## One trip, and the trips from a position -/

section Steps
variable (i : grid0.Coords) (ids : S256.Idx → BitVec 32) (es : S256.Idx → Elt F .f32) (e : S256x1024.Idx → Elt F .f32)

/-- The block after the trip at position `j`: the row of the `j`-th id replaced by itself plus the `j`-th embedding row
    scaled. -/
def oStep (j : ℕ) (o : S1024x1024.Idx → Elt F .f32) : S1024x1024.Idx → Elt F .f32 :=
  if h2 : k0_chk2 (BitVec.ofNat 32 j) then
    if h3 : k0_chk3 i (VecWindow.window (s := S256) ids (k0_off4 (BitVec.ofNat 32 j)) S1.size h2.1 one) then
      VecWindow.put o (k0_off5 i (VecWindow.window (s := S256) ids (k0_off4 (BitVec.ofNat 32 j)) S1.size h2.1 one)) S1x1024.size
        (k0_pay2 (VecWindow.window (s := S1024x1024) o (k0_off5 i (VecWindow.window (s := S256) ids (k0_off4 (BitVec.ofNat 32 j)) S1.size h2.1 one)) S1x1024.size h3)
          (VecWindow.window (s := S256x1024) e (k0_off6 (BitVec.ofNat 32 j)) S1x1024.size h2.2.1)
          (VecWindow.window (s := S256) es (k0_off7 (BitVec.ofNat 32 j)) S1.size h2.2.2 one))
    else o
  else o

/-- The block after `k` trips from position `j`. -/
def oFrom : ℕ → ℕ → (S1024x1024.Idx → Elt F .f32) → (S1024x1024.Idx → Elt F .f32)
  | _, 0, o => o
  | j, k + 1, o => oFrom (j + 1) k (oStep i ids es e j o)

end Steps

/-! ## The loop's specification, met by its body -/

section Label

variable (c : Dev nD) (i : grid0.Coords) (ids : S256.Idx → BitVec 32) (es : S256.Idx → Elt F .f32) (e : S256x1024.Idx → Elt F .f32)
variable (arg1 : Memref sig .tc .smem S256 .i32) (harg1 : arg1.IsWhole) (arg8 : Memref sig .tc .vmem S1024x1024 .f32) (harg8 : arg8.IsWhole)
  (arg11 : Memref sig .tc .vmem S256x1024 .f32) (harg11 : arg11.IsWhole) (arg2 : Memref sig .tc .smem S256 .f32) (harg2 : arg2.IsWhole)
variable (q1 q2 : PosShare TreeShare)

/-- What the loop reads and writes: the ids, the scales and the embedding rows at their contents, the block at `o`. -/
def held (o : S1024x1024.Idx → Elt F .f32) : sProp 𝕄 :=
  iprop(owns (Val := Elt F) (c : Thread nD τ) arg1 q1 ids ∗ owns (Val := Elt F) (c : Thread nD τ) arg2 q2 es
    ∗ owns (Val := Elt F) (c : Thread nD τ) arg11 fullShare e ∗ owns (Val := Elt F) (c : Thread nD τ) arg8 fullShare o)

/-- With `k` trips to run from position `j`, the loop returns the position `j + k` and the block after those trips. -/
def spec (j k : ℕ) (o : S1024x1024.Idx → Elt F .f32) : sWPT 𝕄 (BitVec 32) := do
  sWPT.consume (held c ids es e arg1 arg8 arg11 arg2 q1 q2 o)
  sWPT.produce (held c ids es e arg1 arg8 arg11 arg2 q1 q2 (oFrom i ids es e j k o))
  pure (BitVec.ofNat 32 (j + k))

theorem spec_apply (j k : ℕ) (o : S1024x1024.Idx → Elt F .f32) (K : BitVec 32 → sProp 𝕄) :
    spec c i ids es e arg1 arg8 arg11 arg2 q1 q2 j k o K
      = iprop(held c ids es e arg1 arg8 arg11 arg2 q1 q2 o
        ∗ (held c ids es e arg1 arg8 arg11 arg2 q1 q2 (oFrom i ids es e j k o) -∗ K (BitVec.ofNat 32 (j + k)))) := rfl

/-- The before-region's test at position `p`: it passes exactly when `p` is a position of the list whose id is below the
    block's end. -/
theorem test_iff (ok : Ids.Ok ids) (p : ℕ) (hp : p ≤ 256) (inb : ∀ a, k0_off3 (BitVec.ofNat 32 p) a + S1.size a ≤ S256.size a) :
    (Scalar.andi (Scalar.cmpi .slt (BitVec.ofNat 32 p) 256#32)
      (Scalar.cmpi .slt (VecWindow.window (s := S256) ids (k0_off3 (BitVec.ofNat 32 p)) S1.size inb one)
        (Scalar.addi (Scalar.muli (BitVec.ofNat 32 (i 0).val) 1024#32) 1024#32)) = 1#1) ↔ p < Ids.cnt ids (base i + 1024) := by
  have hi := i_lt i
  have hm : min p 255 < 256 := by omega
  rw [window_at ids _ inb (min p 255) (off3_eq p hp) hm]
  have hn := ok.nonneg _ hm
  rw [Ids.idn_of_lt _ _ hm] at hn
  rw [slt_iff (by rw [BitVec.toNat_ofNat]; omega) (by decide), slt_iff hn (by rw [end_toNat]; unfold base; omega), end_toNat]
  show IntOp.andi _ _ = 1#1 ↔ _
  rw [andi_ofBool, ofBool_eq_one_iff, Bool.and_eq_true, decide_eq_true_eq, decide_eq_true_eq, BitVec.toNat_ofNat]
  rw [← Ids.idn_of_lt _ _ hm]
  constructor
  · rintro ⟨h1, h2⟩
    have hp' : p < 256 := by
      have : (256#32 : BitVec 32).toNat = 256 := rfl
      rw [this] at h1; omega
    rw [show min p 255 = p by omega] at h2
    exact (Ids.lt_cnt_iff ok hp').2 h2
  · intro h
    have hc := Ids.cnt_le ids (base i + 1024)
    refine ⟨?_, ?_⟩
    · show p % 2 ^ 32 < 256
      omega
    · rw [show min p 255 = p by omega]
      exact Ids.lt_of_lt_cnt h

theorem addi_succ (j : ℕ) : Scalar.addi (BitVec.ofNat 32 j) 1#32 = BitVec.ofNat 32 (j + 1) := by
  show BitVec.ofNat 32 j + 1#32 = _
  rw [BitVec.ofNat_add]

/-- The loop's body meets the specification, by induction on the trips still to run. -/
theorem spec_le (ok : Ids.Ok ids) (E : Set ℕ) :
    ∀ k j, j + k = Ids.cnt ids (base i + 1024) → Ids.cnt ids (base i) ≤ j → ∀ o K, spec c i ids es e arg1 arg8 arg11 arg2 q1 q2 j k o K
      ⊢ wp frame (wpE (defs₀ (F := F)) 𝒱₀ (c : Thread nD τ) (some k)) E
          (defs₀ (F := F) .tc 1 ⟨i, arg1, harg1, arg8, harg8, arg11, harg11, arg2, harg2, BitVec.ofNat 32 j⟩) K := by
  have hc := Ids.cnt_le ids (base i + 1024)
  intro k
  induction k with
  | zero =>
    intro j hj hb o K
    rw [spec_apply]
    show _ ⊢ wp frame (wpE (defs₀ (F := F)) 𝒱₀ (c : Thread nD τ) (some 0)) E
      (cc0_while1 i arg1 harg1 arg8 harg8 arg11 harg11 arg2 harg2 (BitVec.ofNat 32 j)) K
    simp only [cc0_while1_eq_skeleton]; unfold cc0_while1_skel
    have h1 : k0_chk1 (BitVec.ofNat 32 j) := chk1_ok j (by omega)
    simp only [smemLoad, smemLoadElt, Prog.lift, Prog.bind_op, Prog.bind_ret, Prog.pure_eq_ret]
    unfold held
    iintro ⟨⟨Hi, Hs, He, Ho⟩, Hk⟩
    iapply (wp_assume 𝒱₀ (c : Thread nD τ) (some 0) E h1)
    iapply (Owned.load 𝒱₀ (c : Thread nD τ) (some 0) E (m := arg1)) $$ Hi; iintro Hi
    rw [if_neg (by
      have := test_iff i ids ok j (by omega) h1
      intro h; have := this.1 h; omega)]
    rw [wp_ret]; imodintro
    iapply Hk
    simp only [oFrom]
    isplitl [Hi]; · iexact Hi
    isplitl [Hs]; · iexact Hs
    isplitl [He]; · iexact He
    iexact Ho
  | succ k ih =>
    intro j hj hb o K
    rw [spec_apply]
    show _ ⊢ wp frame (wpE (defs₀ (F := F)) 𝒱₀ (c : Thread nD τ) (some (k + 1))) E
      (cc0_while1 i arg1 harg1 arg8 harg8 arg11 harg11 arg2 harg2 (BitVec.ofNat 32 j)) K
    simp only [cc0_while1_eq_skeleton]; unfold cc0_while1_skel
    have hj' : j < 256 := by omega
    have h1 : k0_chk1 (BitVec.ofNat 32 j) := chk1_ok j (by omega)
    have h2 : k0_chk2 (BitVec.ofNat 32 j) := chk2_ok j hj'
    have h3 : k0_chk3 i (VecWindow.window (s := S256) ids (k0_off4 (BitVec.ofNat 32 j)) S1.size h2.1 one) := by
      rw [window_at ids _ h2.1 j (off4_eq j hj'.le) hj']
      have hlo := Ids.le_of_cnt_le ok hb hj'
      have hhi := Ids.lt_of_lt_cnt (ids := ids) (b := base i + 1024) (q := j) (by omega)
      rw [Ids.idn_of_lt _ _ hj'] at hlo hhi
      exact chk3_ok i _ hlo hhi
    simp only [smemLoad, smemLoadElt, Prog.lift, Prog.bind_op, Prog.bind_ret, Prog.pure_eq_ret]
    unfold held
    iintro ⟨⟨Hi, Hs, He, Ho⟩, Hk⟩
    iapply (wp_assume 𝒱₀ (c : Thread nD τ) (some (k + 1)) E h1)
    iapply (Owned.load 𝒱₀ (c : Thread nD τ) (some (k + 1)) E (m := arg1)) $$ Hi; iintro Hi
    rw [if_pos ((test_iff i ids ok j (by omega) h1).2 (by omega))]
    iapply (wp_assume 𝒱₀ (c : Thread nD τ) (some (k + 1)) E h2)
    iapply (Owned.load 𝒱₀ (c : Thread nD τ) (some (k + 1)) E (m := arg1)) $$ Hi; iintro Hi
    iapply (wp_assume 𝒱₀ (c : Thread nD τ) (some (k + 1)) E h3)
    iapply (Owned.load 𝒱₀ (c : Thread nD τ) (some (k + 1)) E (m := arg8)) $$ Ho; iintro Ho
    iapply (Owned.load 𝒱₀ (c : Thread nD τ) (some (k + 1)) E (m := arg11)) $$ He; iintro He
    iapply (Owned.load 𝒱₀ (c : Thread nD τ) (some (k + 1)) E (m := arg2)) $$ Hs; iintro Hs
    iapply (Owned.load 𝒱₀ (c : Thread nD τ) (some (k + 1)) E (m := arg8)) $$ Ho; iintro Ho
    iapply (Owned.store 𝒱₀ (c : Thread nD τ) (some (k + 1)) E (m := arg8)) $$ Ho; iintro Ho
    rw [addi_succ j]
    iapply (wp_call_spec 𝒱₀ (c : Thread nD τ) (some (k + 1)) E (spec c i ids es e arg1 arg8 arg11 arg2 q1 q2 (j + 1) k (oStep i ids es e j o)) k
      (fun u hu => by cases hu; exact Nat.lt_succ_self k)
      (ih (j + 1) (by omega) (by omega) (oStep i ids es e j o)))
    rw [spec_apply]; unfold held
    isplitl [Hi Hs He Ho]
    · isplitl [Hi]; · iexact Hi
      isplitl [Hs]; · iexact Hs
      isplitl [He]; · iexact He
      unfold oStep
      rw [dif_pos h2, dif_pos h3]
      iexact Ho
    iintro ⟨Hi, Hs, He, Ho⟩
    rw [wp_ret]; imodintro
    rw [show j + 1 + k = j + (k + 1) by omega]
    iapply Hk
    simp only [oFrom]
    isplitl [Hi]; · iexact Hi
    isplitl [Hs]; · iexact Hs
    isplitl [He]; · iexact He
    iexact Ho

end Label

end Cert.Proof.K

end
-- ==== Proof.K.Body.lean ====
/-
  The kernel's body. At the first grid point it fills its scratch buffers: the rescaled hidden states, the transposed
  scales, the embedding rows widened, and the position of the loop; at every point it multiplies the block of the
  gradient by the hidden states tile by tile, runs the loop over the ids and keeps the loop's position. Each of the
  printed parts of the body is met by what it reads and writes, and the body by their sequence.
-/
module

public import proofs.«01_k».proof.Proof.K.Loop

@[expose] public section

noncomputable section

namespace Cert.Proof.K

open Cert.Kernel Cert.Kernel.Gen Cert.Proof

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.WordArith

variable {F : FTy → Type} [FloatOps F]

local notation "𝕄" => MT nD τ sig Unit (Elt F) ℕ (UR nD τ) ℕ

/-! ## What the parts leave in the buffers -/

/-- The hidden-state scratch after the first part. -/
def hx1 (xs : S2x128.Idx → Elt F .f32) (xc : S2x128x1024.Idx → Elt F .fp8e4m3) (hx : S256x1024.Idx → Elt F .bf16) : S256x1024.Idx → Elt F .bf16 :=
  (VecWindow.put (VecWindow.put (VecWindow.put hx ![0, 0] S128x128.size
    (k0_pay5 (VecWindow.window (s := S2x128) xs ![0, 0] S1x128.size inb_S2x128_S1x128_0_0) (VecWindow.window (s := S2x128x1024) xc ![0, 0, 0] S1x128x128.size inb_S2x128x1024_S1x128x128_0_0_0))) ![0, 128] S128x128.size
    (k0_pay6 (VecWindow.window (s := S2x128) xs ![0, 0] S1x128.size inb_S2x128_S1x128_0_0) (VecWindow.window (s := S2x128x1024) xc ![0, 0, 128] S1x128x128.size inb_S2x128x1024_S1x128x128_0_0_128))) ![0, 256] S128x128.size
    (k0_pay7 (VecWindow.window (s := S2x128) xs ![0, 0] S1x128.size inb_S2x128_S1x128_0_0) (VecWindow.window (s := S2x128x1024) xc ![0, 0, 256] S1x128x128.size inb_S2x128x1024_S1x128x128_0_0_256)))

/-- The hidden-state scratch after the second part. -/
def hx2 (v218 : FVec F S128x128 .bf16) (xc : S2x128x1024.Idx → Elt F .fp8e4m3) (hx : S256x1024.Idx → Elt F .bf16) : S256x1024.Idx → Elt F .bf16 :=
  (VecWindow.put (VecWindow.put (VecWindow.put (VecWindow.put hx ![0, 384] S128x128.size
    (k0_pay8 v218 (VecWindow.window (s := S2x128x1024) xc ![0, 0, 384] S1x128x128.size inb_S2x128x1024_S1x128x128_0_0_384))) ![0, 512] S128x128.size
    (k0_pay9 v218 (VecWindow.window (s := S2x128x1024) xc ![0, 0, 512] S1x128x128.size inb_S2x128x1024_S1x128x128_0_0_512))) ![0, 640] S128x128.size
    (k0_pay10 v218 (VecWindow.window (s := S2x128x1024) xc ![0, 0, 640] S1x128x128.size inb_S2x128x1024_S1x128x128_0_0_640))) ![0, 768] S128x128.size
    (k0_pay11 v218 (VecWindow.window (s := S2x128x1024) xc ![0, 0, 768] S1x128x128.size inb_S2x128x1024_S1x128x128_0_0_768)))

/-- The hidden-state scratch after the third part. -/
def hx3 (v271 : FVec F S128x128 .bf16) (xs : S2x128.Idx → Elt F .f32) (xc : S2x128x1024.Idx → Elt F .fp8e4m3) (hx : S256x1024.Idx → Elt F .bf16) : S256x1024.Idx → Elt F .bf16 :=
  (VecWindow.put (VecWindow.put (VecWindow.put hx ![0, 896] S128x128.size
    (k0_pay13 v271)) ![128, 0] S128x128.size
    (k0_pay16 (VecWindow.window (s := S2x128) xs ![1, 0] S1x128.size inb_S2x128_S1x128_1_0) (VecWindow.window (s := S2x128x1024) xc ![1, 0, 0] S1x128x128.size inb_S2x128x1024_S1x128x128_1_0_0))) ![128, 128] S128x128.size
    (k0_pay17 (VecWindow.window (s := S2x128) xs ![1, 0] S1x128.size inb_S2x128_S1x128_1_0) (VecWindow.window (s := S2x128x1024) xc ![1, 0, 128] S1x128x128.size inb_S2x128x1024_S1x128x128_1_0_128)))

/-- The hidden-state scratch after the fourth part. -/
def hx4 (v285 v303 : FVec F S128x128 .bf16) (xc : S2x128x1024.Idx → Elt F .fp8e4m3) (hx : S256x1024.Idx → Elt F .bf16) : S256x1024.Idx → Elt F .bf16 :=
  (VecWindow.put (VecWindow.put (VecWindow.put (VecWindow.put (VecWindow.put hx ![128, 256] S128x128.size
    (k0_pay19 v303)) ![128, 384] S128x128.size
    (k0_pay20 v285 (VecWindow.window (s := S2x128x1024) xc ![1, 0, 384] S1x128x128.size inb_S2x128x1024_S1x128x128_1_0_384))) ![128, 512] S128x128.size
    (k0_pay21 v285 (VecWindow.window (s := S2x128x1024) xc ![1, 0, 512] S1x128x128.size inb_S2x128x1024_S1x128x128_1_0_512))) ![128, 640] S128x128.size
    (k0_pay22 v285 (VecWindow.window (s := S2x128x1024) xc ![1, 0, 640] S1x128x128.size inb_S2x128x1024_S1x128x128_1_0_640))) ![128, 768] S128x128.size
    (k0_pay23 v285 (VecWindow.window (s := S2x128x1024) xc ![1, 0, 768] S1x128x128.size inb_S2x128x1024_S1x128x128_1_0_768)))

/-- The hidden-state scratch filled: every tile the rescaled hidden states. -/
def hxFill (xs : S2x128.Idx → Elt F .f32) (xc : S2x128x1024.Idx → Elt F .fp8e4m3) (hx : S256x1024.Idx → Elt F .bf16) : S256x1024.Idx → Elt F .bf16 :=
  VecWindow.put (hx4 (k0_pay15 (VecWindow.window (s := S2x128) xs ![1, 0] S1x128.size inb_S2x128_S1x128_1_0))
    (k0_pay18 (VecWindow.window (s := S2x128) xs ![1, 0] S1x128.size inb_S2x128_S1x128_1_0) (VecWindow.window (s := S2x128x1024) xc ![1, 0, 256] S1x128x128.size inb_S2x128x1024_S1x128x128_1_0_256)) xc
    (hx3 (k0_pay12 (k0_pay4 (VecWindow.window (s := S2x128) xs ![0, 0] S1x128.size inb_S2x128_S1x128_0_0)) (VecWindow.window (s := S2x128x1024) xc ![0, 0, 896] S1x128x128.size inb_S2x128x1024_S1x128x128_0_0_896)) xs xc
    (hx2 (k0_pay4 (VecWindow.window (s := S2x128) xs ![0, 0] S1x128.size inb_S2x128_S1x128_0_0)) xc (hx1 xs xc hx)))) ![128, 896] S128x128.size
    (k0_pay25 (k0_pay15 (VecWindow.window (s := S2x128) xs ![1, 0] S1x128.size inb_S2x128_S1x128_1_0)) (k0_pay24 (VecWindow.window (s := S2x128x1024) xc ![1, 0, 896] S1x128x128.size inb_S2x128x1024_S1x128x128_1_0_896)))

/-- The scale scratch filled: the two batches' scales side by side, transposed. -/
def scFill (dls : S2x128x16.Idx → Elt F .f32) (sc : S16x256.Idx → Elt F .f32) : S16x256.Idx → Elt F .f32 :=
  VecWindow.put (VecWindow.put sc ![0, 0] S16x128.size (k0_pay14 (VecWindow.window (s := S2x128x16) dls ![0, 0, 0] S1x128x16.size inb_S2x128x16_S1x128x16_0_0_0))) ![0, 128] S16x128.size
    (k0_pay26 (VecWindow.window (s := S2x128x16) dls ![1, 0, 0] S1x128x16.size inb_S2x128x16_S1x128x16_1_0_0))

/-- The embedding scratch filled: the embedding rows widened. -/
def eFill (ec : S256x1024.Idx → Elt F .fp8e5m2) (e : S256x1024.Idx → Elt F .f32) : S256x1024.Idx → Elt F .f32 :=
  VecWindow.put e ![0, 0] S256x1024.size (k0_pay3 (VecWindow.window (s := S256x1024) ec ![0, 0] S256x1024.size inb_S256x1024_S256x1024_0_0))

/-- Whether the grid point is the first, as the body tests it. -/
def firstBit (i : grid0.Coords) : BitVec 1 := Scalar.cmpi .ne (Scalar.extui (Scalar.cmpi .eq (BitVec.ofNat 32 (i 0).val) 0#32) : BitVec 32) 0#32

/-- The scratch buffers as the rest of the body finds them: filled at the first point, as they were at any other. -/
def hxAt (i : grid0.Coords) (xs : S2x128.Idx → Elt F .f32) (xc : S2x128x1024.Idx → Elt F .fp8e4m3) (hx : S256x1024.Idx → Elt F .bf16) : S256x1024.Idx → Elt F .bf16 := if firstBit i = 1#1 then hxFill xs xc hx else hx
def scAt (i : grid0.Coords) (dls : S2x128x16.Idx → Elt F .f32) (sc : S16x256.Idx → Elt F .f32) : S16x256.Idx → Elt F .f32 := if firstBit i = 1#1 then scFill dls sc else sc
def eAt (i : grid0.Coords) (ec : S256x1024.Idx → Elt F .fp8e5m2) (e : S256x1024.Idx → Elt F .f32) : S256x1024.Idx → Elt F .f32 := if firstBit i = 1#1 then eFill ec e else e
def pAt (i : grid0.Coords) (p : S1.Idx → Elt F .i32) : S1.Idx → Elt F .i32 := if firstBit i = 1#1 then (fun _ => 0#32) else p

/-- The scalar words the sixth part computes. -/
def words6 (arg0 : BitVec 32) : Σ' (v54 : BitVec 32) (v72 : BitVec 32) (v74 : BitVec 32), BitVec 32 :=
  let v53 : BitVec 32 := Scalar.muli arg0 1024#32
  let v54 : BitVec 32 := Scalar.addi v53 256#32
  let v55 : BitVec 32 := Scalar.divsi v54 9496#32
  let v56 : BitVec 1 := Scalar.cmpi .sgt v54 0#32
  let v57 : BitVec 32 := Scalar.extui v56
  let v58 : BitVec 1 := Scalar.cmpi .slt v54 0#32
  let v59 : BitVec 32 := Scalar.extui v58
  let v60 : BitVec 32 := Scalar.subi v57 v59
  let v61 : BitVec 1 := Scalar.cmpi .sgt 9496#32 0#32
  let v62 : BitVec 32 := Scalar.extui v61
  let v63 : BitVec 1 := Scalar.cmpi .slt 9496#32 0#32
  let v64 : BitVec 32 := Scalar.extui v63
  let v65 : BitVec 32 := Scalar.subi v62 v64
  let v66 : BitVec 1 := Scalar.cmpi .ne v60 v65
  let v67 : BitVec 32 := Scalar.remsi v54 9496#32
  let v68 : BitVec 1 := Scalar.cmpi .ne v67 0#32
  let v69 : BitVec 1 := Scalar.andi v66 v68
  let v70 : BitVec 32 := Scalar.subi v55 1#32
  let v71 : BitVec 32 := Scalar.select v69 v70 v55
  let v72 : BitVec 32 := Scalar.minsi v71 15#32
  let v73 : BitVec 32 := Scalar.addi v72 1#32
  let v74 : BitVec 32 := Scalar.minsi v73 15#32
  ⟨v54, v72, v74, 1#32⟩

/-- The scalar words the seventh part computes. -/
def words7 (arg0 : BitVec 32) : Σ' (v104 : BitVec 32) (c9496_i32_47 : BitVec 32) (v105 : BitVec 32) (v110 : BitVec 32) (v112 : BitVec 32), BitVec 32 :=
  let v103 : BitVec 32 := Scalar.muli arg0 1024#32
  let v104 : BitVec 32 := Scalar.addi v103 512#32
  let v105 : BitVec 32 := Scalar.divsi v104 9496#32
  let v106 : BitVec 1 := Scalar.cmpi .sgt v104 0#32
  let v107 : BitVec 32 := Scalar.extui v106
  let v108 : BitVec 1 := Scalar.cmpi .slt v104 0#32
  let v109 : BitVec 32 := Scalar.extui v108
  let v110 : BitVec 32 := Scalar.subi v107 v109
  let v111 : BitVec 1 := Scalar.cmpi .sgt 9496#32 0#32
  let v112 : BitVec 32 := Scalar.extui v111
  ⟨v104, 9496#32, v105, v110, v112, 0#32⟩

/-- The first 256 rows of the block before the loop. -/
def tile0 (i : grid0.Coords) (dl : S2x128x1024.Idx → Elt F .fp8e5m2) (hx : S256x1024.Idx → Elt F .bf16) (sc : S16x256.Idx → Elt F .f32) : FVec F S256x1024 .f32 :=
  k0_pay28 (k0_pay27 i (VecWindow.window (s := S16x256) sc (k0_off1 i 0#32) S1x256.size (k0_off1_inb i 0)) (VecWindow.window (s := S16x256) sc (k0_off2 i 0#32) S1x256.size (k0_off2_inb i 0))) (VecWindow.window (s := S2x128x1024) dl ![0, 0, 0] S1x128x256.size inb_S2x128x1024_S1x128x256_0_0_0) (VecWindow.window (s := S2x128x1024) dl ![1, 0, 0] S1x128x256.size inb_S2x128x1024_S1x128x256_1_0_0) (VecWindow.window (s := S256x1024) hx ![0, 0] S256x1024.size inb_S256x1024_S256x1024_0_0)

/-- The second 256 rows. -/
def tile1 (i : grid0.Coords) (dl : S2x128x1024.Idx → Elt F .fp8e5m2) (hx : S256x1024.Idx → Elt F .bf16) (sc : S16x256.Idx → Elt F .f32) : FVec F S256x1024 .f32 :=
  k0_pay29 (words6 (BitVec.ofNat 32 (i 0).val)).1 (words6 (BitVec.ofNat 32 (i 0).val)).2.1 (words6 (BitVec.ofNat 32 (i 0).val)).2.2.2 (VecWindow.window (s := S16x256) sc (k0_off1 i 256#32) S1x256.size (k0_off1_inb i 1)) (VecWindow.window (s := S16x256) sc (k0_off2 i 256#32) S1x256.size (k0_off2_inb i 1)) (VecWindow.window (s := S2x128x1024) dl ![0, 0, 256] S1x128x256.size inb_S2x128x1024_S1x128x256_0_0_256) (VecWindow.window (s := S2x128x1024) dl ![1, 0, 256] S1x128x256.size inb_S2x128x1024_S1x128x256_1_0_256) (VecWindow.window (s := S256x1024) hx ![0, 0] S256x1024.size inb_S256x1024_S256x1024_0_0)

/-- The third 256 rows. -/
def tile2 (i : grid0.Coords) (dl : S2x128x1024.Idx → Elt F .fp8e5m2) (hx : S256x1024.Idx → Elt F .bf16) (sc : S16x256.Idx → Elt F .f32) : FVec F S256x1024 .f32 :=
  k0_pay30 (words7 (BitVec.ofNat 32 (i 0).val)).1 (words7 (BitVec.ofNat 32 (i 0).val)).2.1 (words7 (BitVec.ofNat 32 (i 0).val)).2.2.1 (words7 (BitVec.ofNat 32 (i 0).val)).2.2.2.1 (words7 (BitVec.ofNat 32 (i 0).val)).2.2.2.2.1 (words7 (BitVec.ofNat 32 (i 0).val)).2.2.2.2.2 (VecWindow.window (s := S16x256) sc (k0_off1 i 512#32) S1x256.size (k0_off1_inb i 2)) (VecWindow.window (s := S16x256) sc (k0_off2 i 512#32) S1x256.size (k0_off2_inb i 2)) (VecWindow.window (s := S2x128x1024) dl ![0, 0, 512] S1x128x256.size inb_S2x128x1024_S1x128x256_0_0_512) (VecWindow.window (s := S2x128x1024) dl ![1, 0, 512] S1x128x256.size inb_S2x128x1024_S1x128x256_1_0_512) (VecWindow.window (s := S256x1024) hx ![0, 0] S256x1024.size inb_S256x1024_S256x1024_0_0)

/-- The fourth 256 rows. -/
def tile3 (i : grid0.Coords) (dl : S2x128x1024.Idx → Elt F .fp8e5m2) (hx : S256x1024.Idx → Elt F .bf16) (sc : S16x256.Idx → Elt F .f32) : FVec F S256x1024 .f32 :=
  k0_pay1 (k0_pay31 (BitVec.ofNat 32 (i 0).val) (VecWindow.window (s := S16x256) sc (k0_off1 i 768#32) S1x256.size (k0_off1_inb i 3)) (VecWindow.window (s := S16x256) sc (k0_off2 i 768#32) S1x256.size (k0_off2_inb i 3))) (k0_pay32 (VecWindow.window (s := S2x128x1024) dl ![0, 0, 768] S1x128x256.size inb_S2x128x1024_S1x128x256_0_0_768)) (VecWindow.window (s := S2x128x1024) dl ![1, 0, 768] S1x128x256.size inb_S2x128x1024_S1x128x256_1_0_768) (VecWindow.window (s := S256x1024) hx ![0, 0] S256x1024.size inb_S256x1024_S256x1024_0_0)

/-- The block before the loop: its four tiles. -/
def tiles (i : grid0.Coords) (dl : S2x128x1024.Idx → Elt F .fp8e5m2) (hx : S256x1024.Idx → Elt F .bf16) (sc : S16x256.Idx → Elt F .f32) (o : S1024x1024.Idx → Elt F .f32) : S1024x1024.Idx → Elt F .f32 :=
  VecWindow.put (VecWindow.put (VecWindow.put (VecWindow.put o ![0, 0] S256x1024.size (tile0 i dl hx sc)) ![256, 0] S256x1024.size (tile1 i dl hx sc))
    ![512, 0] S256x1024.size (tile2 i dl hx sc)) ![768, 0] S256x1024.size (tile3 i dl hx sc)

/-- The block after the body: the tiles, then the loop's trips over the ids that fall in the block. -/
def blk (i : grid0.Coords) (ids : S256.Idx → Elt F .i32) (es : S256.Idx → Elt F .f32) (dl : S2x128x1024.Idx → Elt F .fp8e5m2) (hx : S256x1024.Idx → Elt F .bf16) (sc : S16x256.Idx → Elt F .f32) (e : S256x1024.Idx → Elt F .f32) (o : S1024x1024.Idx → Elt F .f32) : S1024x1024.Idx → Elt F .f32 :=
  oFrom i ids es e (Ids.cnt ids (base i)) (Ids.cnt ids (base i + 1024) - Ids.cnt ids (base i)) (tiles i dl hx sc o)

/-- The word the loop's position is kept as. -/
def ptr (n : ℕ) : S1.Idx → Elt F .i32 := fun _ => BitVec.ofNat 32 n

theorem put_one (x w : S1.Idx → Elt F .i32) : VecWindow.put x ![0] S1.size w = w := by
  funext y
  have hy : (y 0).val = 0 := by have : (y 0).val < 1 := (y 0).isLt; omega
  unfold VecWindow.put
  rw [dif_pos (fun a => by fin_cases a; show 0 ≤ (y 0).val ∧ (y 0).val < 0 + 1; omega)]
  refine congrArg w (funext fun a => Fin.ext ?_)
  fin_cases a
  show (y 0).val - 0 = (y 0).val
  omega

/-! ## The parts -/

section Parts

variable (c : Dev nD) (E : Set ℕ) (i : grid0.Coords) (arg1 : Memref sig .tc .smem S256 .i32) (harg1 : arg1.IsWhole) (arg2 : Memref sig .tc .smem S256 .f32) (harg2 : arg2.IsWhole) (arg3 : Memref sig .tc .vmem S2x128x1024 .fp8e5m2) (harg3 : arg3.IsWhole) (arg4 : Memref sig .tc .vmem S2x128x16 .f32) (harg4 : arg4.IsWhole) (arg5 : Memref sig .tc .vmem S2x128x1024 .fp8e4m3) (harg5 : arg5.IsWhole) (arg6 : Memref sig .tc .vmem S2x128 .f32) (harg6 : arg6.IsWhole) (arg7 : Memref sig .tc .vmem S256x1024 .fp8e5m2) (harg7 : arg7.IsWhole) (arg8 : Memref sig .tc .vmem S1024x1024 .f32) (harg8 : arg8.IsWhole) (arg9 : Memref sig .tc .vmem S256x1024 .bf16) (harg9 : arg9.IsWhole) (arg10 : Memref sig .tc .vmem S16x256 .f32) (harg10 : arg10.IsWhole) (arg11 : Memref sig .tc .vmem S256x1024 .f32) (harg11 : arg11.IsWhole) (arg12 : Memref sig .tc .smem S1 .i32) (harg12 : arg12.IsWhole)

/-- Part 1 of the body, met by what it reads and writes. -/
theorem part1_spec  (p : S1.Idx → Elt F .i32) (ec : S256x1024.Idx → Elt F .fp8e5m2) (e : S256x1024.Idx → Elt F .f32) (xs : S2x128.Idx → Elt F .f32) (xc : S2x128x1024.Idx → Elt F .fp8e4m3) (hx : S256x1024.Idx → Elt F .bf16) (K : FVec F S128x128 .bf16 → sProp 𝕄) :
    iprop((owns (Val := Elt F) (c : Thread nD τ) arg12 fullShare p ∗ owns (Val := Elt F) (c : Thread nD τ) arg7 fullShare ec ∗ owns (Val := Elt F) (c : Thread nD τ) arg11 fullShare e ∗ owns (Val := Elt F) (c : Thread nD τ) arg6 fullShare xs ∗ owns (Val := Elt F) (c : Thread nD τ) arg5 fullShare xc ∗ owns (Val := Elt F) (c : Thread nD τ) arg9 fullShare hx) ∗ ((owns (Val := Elt F) (c : Thread nD τ) arg12 fullShare (VecWindow.put p ![0] S1.size (fun _ => 0#32)) ∗ owns (Val := Elt F) (c : Thread nD τ) arg7 fullShare ec ∗ owns (Val := Elt F) (c : Thread nD τ) arg11 fullShare (eFill ec e) ∗ owns (Val := Elt F) (c : Thread nD τ) arg6 fullShare xs ∗ owns (Val := Elt F) (c : Thread nD τ) arg5 fullShare xc ∗ owns (Val := Elt F) (c : Thread nD τ) arg9 fullShare (hx1 xs xc hx)) -∗ K (k0_pay4 (VecWindow.window (s := S2x128) xs ![0, 0] S1x128.size inb_S2x128_S1x128_0_0))))
      ⊢ wp frame (wpE (defs₀ (F := F)) 𝒱₀ (c : Thread nD τ) none) E (k0_part1 i arg1 harg1 arg2 harg2 arg3 harg3 arg4 harg4 arg5 harg5 arg6 harg6 arg7 harg7 arg8 harg8 arg9 harg9 arg10 harg10 arg11 harg11 arg12 harg12) K := by
  rw [k0_part1_eq_skeleton]; unfold k0_part1_skel
  simp only [smemLoad, smemLoadElt, Prog.lift, Prog.bind_op, Prog.bind_ret, Prog.pure_eq_ret]
  iintro ⟨⟨H12, H7, H11, H6, H5, H9⟩, Hk⟩
  iapply (Owned.load 𝒱₀ (c : Thread nD τ) none E (m := arg12)) $$ H12; iintro H12
  iapply (Owned.store 𝒱₀ (c : Thread nD τ) none E (m := arg12)) $$ H12; iintro H12
  iapply (Owned.load 𝒱₀ (c : Thread nD τ) none E (m := arg7)) $$ H7; iintro H7
  iapply (Owned.load 𝒱₀ (c : Thread nD τ) none E (m := arg11)) $$ H11; iintro H11
  iapply (Owned.store 𝒱₀ (c : Thread nD τ) none E (m := arg11)) $$ H11; iintro H11
  iapply (Owned.load 𝒱₀ (c : Thread nD τ) none E (m := arg6)) $$ H6; iintro H6
  iapply (Owned.load 𝒱₀ (c : Thread nD τ) none E (m := arg5)) $$ H5; iintro H5
  iapply (Owned.load 𝒱₀ (c : Thread nD τ) none E (m := arg9)) $$ H9; iintro H9
  iapply (Owned.store 𝒱₀ (c : Thread nD τ) none E (m := arg9)) $$ H9; iintro H9
  iapply (Owned.load 𝒱₀ (c : Thread nD τ) none E (m := arg5)) $$ H5; iintro H5
  iapply (Owned.load 𝒱₀ (c : Thread nD τ) none E (m := arg9)) $$ H9; iintro H9
  iapply (Owned.store 𝒱₀ (c : Thread nD τ) none E (m := arg9)) $$ H9; iintro H9
  iapply (Owned.load 𝒱₀ (c : Thread nD τ) none E (m := arg5)) $$ H5; iintro H5
  iapply (Owned.load 𝒱₀ (c : Thread nD τ) none E (m := arg9)) $$ H9; iintro H9
  iapply (Owned.store 𝒱₀ (c : Thread nD τ) none E (m := arg9)) $$ H9; iintro H9
  rw [wp_ret]; imodintro
  iapply Hk
  isplitl [H12]; · iexact H12
  isplitl [H7]; · iexact H7
  isplitl [H11]; · iexact H11
  isplitl [H6]; · iexact H6
  isplitl [H5]; · iexact H5
  iexact H9

/-- Part 2 of the body, met by what it reads and writes. -/
theorem part2_spec (v218 : FVec F S128x128 .bf16) (xc : S2x128x1024.Idx → Elt F .fp8e4m3) (hx : S256x1024.Idx → Elt F .bf16) (K : FVec F S128x128 .bf16 → sProp 𝕄) :
    iprop((owns (Val := Elt F) (c : Thread nD τ) arg5 fullShare xc ∗ owns (Val := Elt F) (c : Thread nD τ) arg9 fullShare hx) ∗ ((owns (Val := Elt F) (c : Thread nD τ) arg5 fullShare xc ∗ owns (Val := Elt F) (c : Thread nD τ) arg9 fullShare (hx2 v218 xc hx)) -∗ K (k0_pay12 v218 (VecWindow.window (s := S2x128x1024) xc ![0, 0, 896] S1x128x128.size inb_S2x128x1024_S1x128x128_0_0_896))))
      ⊢ wp frame (wpE (defs₀ (F := F)) 𝒱₀ (c : Thread nD τ) none) E (k0_part2 i arg1 harg1 arg2 harg2 arg3 harg3 arg4 harg4 arg5 harg5 arg6 harg6 arg7 harg7 arg8 harg8 arg9 harg9 arg10 harg10 arg11 harg11 arg12 harg12 v218) K := by
  rw [k0_part2_eq_skeleton]; unfold k0_part2_skel
  simp only [smemLoad, smemLoadElt, Prog.lift, Prog.bind_op, Prog.bind_ret, Prog.pure_eq_ret]
  iintro ⟨⟨H5, H9⟩, Hk⟩
  iapply (Owned.load 𝒱₀ (c : Thread nD τ) none E (m := arg5)) $$ H5; iintro H5
  iapply (Owned.load 𝒱₀ (c : Thread nD τ) none E (m := arg9)) $$ H9; iintro H9
  iapply (Owned.store 𝒱₀ (c : Thread nD τ) none E (m := arg9)) $$ H9; iintro H9
  iapply (Owned.load 𝒱₀ (c : Thread nD τ) none E (m := arg5)) $$ H5; iintro H5
  iapply (Owned.load 𝒱₀ (c : Thread nD τ) none E (m := arg9)) $$ H9; iintro H9
  iapply (Owned.store 𝒱₀ (c : Thread nD τ) none E (m := arg9)) $$ H9; iintro H9
  iapply (Owned.load 𝒱₀ (c : Thread nD τ) none E (m := arg5)) $$ H5; iintro H5
  iapply (Owned.load 𝒱₀ (c : Thread nD τ) none E (m := arg9)) $$ H9; iintro H9
  iapply (Owned.store 𝒱₀ (c : Thread nD τ) none E (m := arg9)) $$ H9; iintro H9
  iapply (Owned.load 𝒱₀ (c : Thread nD τ) none E (m := arg5)) $$ H5; iintro H5
  iapply (Owned.load 𝒱₀ (c : Thread nD τ) none E (m := arg9)) $$ H9; iintro H9
  iapply (Owned.store 𝒱₀ (c : Thread nD τ) none E (m := arg9)) $$ H9; iintro H9
  iapply (Owned.load 𝒱₀ (c : Thread nD τ) none E (m := arg5)) $$ H5; iintro H5
  rw [wp_ret]; imodintro
  iapply Hk
  isplitl [H5]; · iexact H5
  iexact H9

/-- Part 3 of the body, met by what it reads and writes. -/
theorem part3_spec (v271 : FVec F S128x128 .bf16) (hx : S256x1024.Idx → Elt F .bf16) (dls : S2x128x16.Idx → Elt F .f32) (sc : S16x256.Idx → Elt F .f32) (xs : S2x128.Idx → Elt F .f32) (xc : S2x128x1024.Idx → Elt F .fp8e4m3) (K : (Σ' (v285 : FVec F S128x128 .bf16) (v303 : FVec F S128x128 .bf16), Vec F S128x128 .bf16) → sProp 𝕄) :
    iprop((owns (Val := Elt F) (c : Thread nD τ) arg9 fullShare hx ∗ owns (Val := Elt F) (c : Thread nD τ) arg4 fullShare dls ∗ owns (Val := Elt F) (c : Thread nD τ) arg10 fullShare sc ∗ owns (Val := Elt F) (c : Thread nD τ) arg6 fullShare xs ∗ owns (Val := Elt F) (c : Thread nD τ) arg5 fullShare xc) ∗ ((owns (Val := Elt F) (c : Thread nD τ) arg9 fullShare (hx3 v271 xs xc hx) ∗ owns (Val := Elt F) (c : Thread nD τ) arg4 fullShare dls ∗ owns (Val := Elt F) (c : Thread nD τ) arg10 fullShare (VecWindow.put sc ![0, 0] S16x128.size (k0_pay14 (VecWindow.window (s := S2x128x16) dls ![0, 0, 0] S1x128x16.size inb_S2x128x16_S1x128x16_0_0_0))) ∗ owns (Val := Elt F) (c : Thread nD τ) arg6 fullShare xs ∗ owns (Val := Elt F) (c : Thread nD τ) arg5 fullShare xc) -∗ K ⟨(k0_pay15 (VecWindow.window (s := S2x128) xs ![1, 0] S1x128.size inb_S2x128_S1x128_1_0)), (k0_pay18 (VecWindow.window (s := S2x128) xs ![1, 0] S1x128.size inb_S2x128_S1x128_1_0) (VecWindow.window (s := S2x128x1024) xc ![1, 0, 256] S1x128x128.size inb_S2x128x1024_S1x128x128_1_0_256)), (VecWindow.window (s := S256x1024) (hx3 v271 xs xc hx) ![128, 256] S128x128.size inb_S256x1024_S128x128_128_256)⟩))
      ⊢ wp frame (wpE (defs₀ (F := F)) 𝒱₀ (c : Thread nD τ) none) E (k0_part3 i arg1 harg1 arg2 harg2 arg3 harg3 arg4 harg4 arg5 harg5 arg6 harg6 arg7 harg7 arg8 harg8 arg9 harg9 arg10 harg10 arg11 harg11 arg12 harg12 v271) K := by
  rw [k0_part3_eq_skeleton]; unfold k0_part3_skel
  simp only [smemLoad, smemLoadElt, Prog.lift, Prog.bind_op, Prog.bind_ret, Prog.pure_eq_ret]
  iintro ⟨⟨H9, H4, H10, H6, H5⟩, Hk⟩
  iapply (Owned.load 𝒱₀ (c : Thread nD τ) none E (m := arg9)) $$ H9; iintro H9
  iapply (Owned.store 𝒱₀ (c : Thread nD τ) none E (m := arg9)) $$ H9; iintro H9
  iapply (Owned.load 𝒱₀ (c : Thread nD τ) none E (m := arg4)) $$ H4; iintro H4
  iapply (Owned.load 𝒱₀ (c : Thread nD τ) none E (m := arg10)) $$ H10; iintro H10
  iapply (Owned.store 𝒱₀ (c : Thread nD τ) none E (m := arg10)) $$ H10; iintro H10
  iapply (Owned.load 𝒱₀ (c : Thread nD τ) none E (m := arg6)) $$ H6; iintro H6
  iapply (Owned.load 𝒱₀ (c : Thread nD τ) none E (m := arg5)) $$ H5; iintro H5
  iapply (Owned.load 𝒱₀ (c : Thread nD τ) none E (m := arg9)) $$ H9; iintro H9
  iapply (Owned.store 𝒱₀ (c : Thread nD τ) none E (m := arg9)) $$ H9; iintro H9
  iapply (Owned.load 𝒱₀ (c : Thread nD τ) none E (m := arg5)) $$ H5; iintro H5
  iapply (Owned.load 𝒱₀ (c : Thread nD τ) none E (m := arg9)) $$ H9; iintro H9
  iapply (Owned.store 𝒱₀ (c : Thread nD τ) none E (m := arg9)) $$ H9; iintro H9
  iapply (Owned.load 𝒱₀ (c : Thread nD τ) none E (m := arg5)) $$ H5; iintro H5
  iapply (Owned.load 𝒱₀ (c : Thread nD τ) none E (m := arg9)) $$ H9; iintro H9
  rw [wp_ret]; imodintro
  simp only [hx3]
  iapply Hk
  isplitl [H9]; · iexact H9
  isplitl [H4]; · iexact H4
  isplitl [H10]; · iexact H10
  isplitl [H6]; · iexact H6
  iexact H5

/-- Part 4 of the body, met by what it reads and writes. -/
theorem part4_spec (v285 : FVec F S128x128 .bf16) (v303 : FVec F S128x128 .bf16) (v304 : Vec F S128x128 .bf16) (hx : S256x1024.Idx → Elt F .bf16) (xc : S2x128x1024.Idx → Elt F .fp8e4m3) (K : FVec F S128x128 .fp8e4m3 → sProp 𝕄) :
    iprop((owns (Val := Elt F) (c : Thread nD τ) arg9 fullShare hx ∗ owns (Val := Elt F) (c : Thread nD τ) arg5 fullShare xc) ∗ ((owns (Val := Elt F) (c : Thread nD τ) arg9 fullShare (hx4 v285 v303 xc hx) ∗ owns (Val := Elt F) (c : Thread nD τ) arg5 fullShare xc) -∗ K (k0_pay24 (VecWindow.window (s := S2x128x1024) xc ![1, 0, 896] S1x128x128.size inb_S2x128x1024_S1x128x128_1_0_896))))
      ⊢ wp frame (wpE (defs₀ (F := F)) 𝒱₀ (c : Thread nD τ) none) E (k0_part4 i arg1 harg1 arg2 harg2 arg3 harg3 arg4 harg4 arg5 harg5 arg6 harg6 arg7 harg7 arg8 harg8 arg9 harg9 arg10 harg10 arg11 harg11 arg12 harg12 v285 v303 v304) K := by
  rw [k0_part4_eq_skeleton]; unfold k0_part4_skel
  simp only [smemLoad, smemLoadElt, Prog.lift, Prog.bind_op, Prog.bind_ret, Prog.pure_eq_ret]
  iintro ⟨⟨H9, H5⟩, Hk⟩
  iapply (Owned.store 𝒱₀ (c : Thread nD τ) none E (m := arg9)) $$ H9; iintro H9
  iapply (Owned.load 𝒱₀ (c : Thread nD τ) none E (m := arg5)) $$ H5; iintro H5
  iapply (Owned.load 𝒱₀ (c : Thread nD τ) none E (m := arg9)) $$ H9; iintro H9
  iapply (Owned.store 𝒱₀ (c : Thread nD τ) none E (m := arg9)) $$ H9; iintro H9
  iapply (Owned.load 𝒱₀ (c : Thread nD τ) none E (m := arg5)) $$ H5; iintro H5
  iapply (Owned.load 𝒱₀ (c : Thread nD τ) none E (m := arg9)) $$ H9; iintro H9
  iapply (Owned.store 𝒱₀ (c : Thread nD τ) none E (m := arg9)) $$ H9; iintro H9
  iapply (Owned.load 𝒱₀ (c : Thread nD τ) none E (m := arg5)) $$ H5; iintro H5
  iapply (Owned.load 𝒱₀ (c : Thread nD τ) none E (m := arg9)) $$ H9; iintro H9
  iapply (Owned.store 𝒱₀ (c : Thread nD τ) none E (m := arg9)) $$ H9; iintro H9
  iapply (Owned.load 𝒱₀ (c : Thread nD τ) none E (m := arg5)) $$ H5; iintro H5
  iapply (Owned.load 𝒱₀ (c : Thread nD τ) none E (m := arg9)) $$ H9; iintro H9
  iapply (Owned.store 𝒱₀ (c : Thread nD τ) none E (m := arg9)) $$ H9; iintro H9
  iapply (Owned.load 𝒱₀ (c : Thread nD τ) none E (m := arg5)) $$ H5; iintro H5
  rw [wp_ret]; imodintro
  iapply Hk
  isplitl [H9]; · iexact H9
  iexact H5

/-- The block before its branch and the scale rows after it. -/
theorem part5_spec (p : S1.Idx → Elt F .i32) (ec : S256x1024.Idx → Elt F .fp8e5m2) (e : S256x1024.Idx → Elt F .f32) (xs : S2x128.Idx → Elt F .f32) (xc : S2x128x1024.Idx → Elt F .fp8e4m3) (hx : S256x1024.Idx → Elt F .bf16) (dls : S2x128x16.Idx → Elt F .f32) (sc : S16x256.Idx → Elt F .f32) (K : (Σ' (arg0 : BitVec 32), FVec F S256x256 .f32) → sProp 𝕄) :
    iprop((owns (Val := Elt F) (c : Thread nD τ) arg12 fullShare p ∗ owns (Val := Elt F) (c : Thread nD τ) arg7 fullShare ec ∗ owns (Val := Elt F) (c : Thread nD τ) arg11 fullShare e ∗ owns (Val := Elt F) (c : Thread nD τ) arg6 fullShare xs ∗ owns (Val := Elt F) (c : Thread nD τ) arg5 fullShare xc ∗ owns (Val := Elt F) (c : Thread nD τ) arg9 fullShare hx ∗ owns (Val := Elt F) (c : Thread nD τ) arg4 fullShare dls ∗ owns (Val := Elt F) (c : Thread nD τ) arg10 fullShare sc) ∗ ((owns (Val := Elt F) (c : Thread nD τ) arg12 fullShare (pAt i p) ∗ owns (Val := Elt F) (c : Thread nD τ) arg7 fullShare ec ∗ owns (Val := Elt F) (c : Thread nD τ) arg11 fullShare (eAt i ec e) ∗ owns (Val := Elt F) (c : Thread nD τ) arg6 fullShare xs ∗ owns (Val := Elt F) (c : Thread nD τ) arg5 fullShare xc ∗ owns (Val := Elt F) (c : Thread nD τ) arg9 fullShare (hxAt i xs xc hx) ∗ owns (Val := Elt F) (c : Thread nD τ) arg4 fullShare dls ∗ owns (Val := Elt F) (c : Thread nD τ) arg10 fullShare (scAt i dls sc)) -∗ K ⟨(BitVec.ofNat 32 (i 0).val), k0_pay27 i (VecWindow.window (s := S16x256) (scAt i dls sc) (k0_off1 i 0#32) S1x256.size (k0_off1_inb i 0)) (VecWindow.window (s := S16x256) (scAt i dls sc) (k0_off2 i 0#32) S1x256.size (k0_off2_inb i 0))⟩))
      ⊢ wp frame (wpE (defs₀ (F := F)) 𝒱₀ (c : Thread nD τ) none) E (k0_part5 i arg1 harg1 arg2 harg2 arg3 harg3 arg4 harg4 arg5 harg5 arg6 harg6 arg7 harg7 arg8 harg8 arg9 harg9 arg10 harg10 arg11 harg11 arg12 harg12) K := by
  rw [k0_part5_eq_skeleton]; unfold k0_part5_skel
  unfold pAt eAt hxAt scAt
  dsimp only
  by_cases h1 : firstBit i = 1#1
  · simp only [if_pos h1]
    unfold firstBit at h1
    rw [dif_pos h1]
    simp only [Prog.bind_assoc, Prog.lift, Prog.bind_op, Prog.bind_ret, Prog.pure_eq_ret]
    iintro ⟨⟨H12, H7, H11, H6, H5, H9, H4, H10⟩, Hk⟩
    rw [wp_bind]
    iapply (part1_spec c E i arg1 harg1 arg2 harg2 arg3 harg3 arg4 harg4 arg5 harg5 arg6 harg6 arg7 harg7 arg8 harg8 arg9 harg9 arg10 harg10 arg11 harg11 arg12 harg12 _ _ _ _ _ _ _)
    isplitl [H12 H7 H11 H6 H5 H9]
    · isplitl [H12]; · iexact H12
      isplitl [H7]; · iexact H7
      isplitl [H11]; · iexact H11
      isplitl [H6]; · iexact H6
      isplitl [H5]; · iexact H5
      iexact H9
    iintro ⟨H12, H7, H11, H6, H5, H9⟩
    dsimp only
    rw [wp_bind]
    iapply (part2_spec c E i arg1 harg1 arg2 harg2 arg3 harg3 arg4 harg4 arg5 harg5 arg6 harg6 arg7 harg7 arg8 harg8 arg9 harg9 arg10 harg10 arg11 harg11 arg12 harg12 _ _ _ _)
    isplitl [H5 H9]
    · isplitl [H5]; · iexact H5
      iexact H9
    iintro ⟨H5, H9⟩
    dsimp only
    rw [wp_bind]
    iapply (part3_spec c E i arg1 harg1 arg2 harg2 arg3 harg3 arg4 harg4 arg5 harg5 arg6 harg6 arg7 harg7 arg8 harg8 arg9 harg9 arg10 harg10 arg11 harg11 arg12 harg12 _ _ _ _ _ _ _)
    isplitl [H9 H4 H10 H6 H5]
    · isplitl [H9]; · iexact H9
      isplitl [H4]; · iexact H4
      isplitl [H10]; · iexact H10
      isplitl [H6]; · iexact H6
      iexact H5
    iintro ⟨H9, H4, H10, H6, H5⟩
    dsimp only
    rw [wp_bind]
    iapply (part4_spec c E i arg1 harg1 arg2 harg2 arg3 harg3 arg4 harg4 arg5 harg5 arg6 harg6 arg7 harg7 arg8 harg8 arg9 harg9 arg10 harg10 arg11 harg11 arg12 harg12 _ _ _ _ _ _)
    isplitl [H9 H5]
    · isplitl [H9]; · iexact H9
      iexact H5
    iintro ⟨H9, H5⟩
    dsimp only
    iapply (Owned.load 𝒱₀ (c : Thread nD τ) none E (m := arg9)) $$ H9; iintro H9
    iapply (Owned.store 𝒱₀ (c : Thread nD τ) none E (m := arg9)) $$ H9; iintro H9
    iapply (Owned.load 𝒱₀ (c : Thread nD τ) none E (m := arg4)) $$ H4; iintro H4
    iapply (Owned.load 𝒱₀ (c : Thread nD τ) none E (m := arg10)) $$ H10; iintro H10
    iapply (Owned.store 𝒱₀ (c : Thread nD τ) none E (m := arg10)) $$ H10; iintro H10
    iapply (Owned.load 𝒱₀ (c : Thread nD τ) none E (m := arg10)) $$ H10; iintro H10
    iapply (Owned.load 𝒱₀ (c : Thread nD τ) none E (m := arg10)) $$ H10; iintro H10
    rw [wp_ret]; imodintro
    unfold scFill hxFill
    rw [put_one]
    iapply Hk
    isplitl [H12]; · iexact H12
    isplitl [H7]; · iexact H7
    isplitl [H11]; · iexact H11
    isplitl [H6]; · iexact H6
    isplitl [H5]; · iexact H5
    isplitl [H9]; · iexact H9
    isplitl [H4]; · iexact H4
    iexact H10
  · simp only [if_neg h1]
    unfold firstBit at h1
    rw [dif_neg h1]
    simp only [Prog.lift, Prog.bind_op, Prog.bind_ret, Prog.pure_eq_ret]
    iintro ⟨⟨H12, H7, H11, H6, H5, H9, H4, H10⟩, Hk⟩
    iapply (Owned.load 𝒱₀ (c : Thread nD τ) none E (m := arg10)) $$ H10; iintro H10
    iapply (Owned.load 𝒱₀ (c : Thread nD τ) none E (m := arg10)) $$ H10; iintro H10
    rw [wp_ret]; imodintro
    iapply Hk
    isplitl [H12]; · iexact H12
    isplitl [H7]; · iexact H7
    isplitl [H11]; · iexact H11
    isplitl [H6]; · iexact H6
    isplitl [H5]; · iexact H5
    isplitl [H9]; · iexact H9
    isplitl [H4]; · iexact H4
    iexact H10

/-- Part 6 of the body, met by what it reads and writes. -/
theorem part6_spec (v39 : FVec F S256x256 .f32) (dl : S2x128x1024.Idx → Elt F .fp8e5m2) (hx : S256x1024.Idx → Elt F .bf16) (o : S1024x1024.Idx → Elt F .f32) (K : (Σ' (v54 : BitVec 32) (v72 : BitVec 32) (v74 : BitVec 32), BitVec 32) → sProp 𝕄) :
    iprop((owns (Val := Elt F) (c : Thread nD τ) arg3 fullShare dl ∗ owns (Val := Elt F) (c : Thread nD τ) arg9 fullShare hx ∗ owns (Val := Elt F) (c : Thread nD τ) arg8 fullShare o) ∗ ((owns (Val := Elt F) (c : Thread nD τ) arg3 fullShare dl ∗ owns (Val := Elt F) (c : Thread nD τ) arg9 fullShare hx ∗ owns (Val := Elt F) (c : Thread nD τ) arg8 fullShare (VecWindow.put o ![0, 0] S256x1024.size (k0_pay28 v39 (VecWindow.window (s := S2x128x1024) dl ![0, 0, 0] S1x128x256.size inb_S2x128x1024_S1x128x256_0_0_0) (VecWindow.window (s := S2x128x1024) dl ![1, 0, 0] S1x128x256.size inb_S2x128x1024_S1x128x256_1_0_0) (VecWindow.window (s := S256x1024) hx ![0, 0] S256x1024.size inb_S256x1024_S256x1024_0_0)))) -∗ K (words6 (BitVec.ofNat 32 (i 0).val))))
      ⊢ wp frame (wpE (defs₀ (F := F)) 𝒱₀ (c : Thread nD τ) none) E (k0_part6 i arg1 harg1 arg2 harg2 arg3 harg3 arg4 harg4 arg5 harg5 arg6 harg6 arg7 harg7 arg8 harg8 arg9 harg9 arg10 harg10 arg11 harg11 arg12 harg12 (BitVec.ofNat 32 (i 0).val) v39) K := by
  rw [k0_part6_eq_skeleton]; unfold k0_part6_skel
  simp only [smemLoad, smemLoadElt, Prog.lift, Prog.bind_op, Prog.bind_ret, Prog.pure_eq_ret]
  iintro ⟨⟨H3, H9, H8⟩, Hk⟩
  iapply (Owned.load 𝒱₀ (c : Thread nD τ) none E (m := arg3)) $$ H3; iintro H3
  iapply (Owned.load 𝒱₀ (c : Thread nD τ) none E (m := arg3)) $$ H3; iintro H3
  iapply (Owned.load 𝒱₀ (c : Thread nD τ) none E (m := arg9)) $$ H9; iintro H9
  iapply (Owned.load 𝒱₀ (c : Thread nD τ) none E (m := arg8)) $$ H8; iintro H8
  iapply (Owned.store 𝒱₀ (c : Thread nD τ) none E (m := arg8)) $$ H8; iintro H8
  rw [wp_ret]; imodintro
  simp only [words6]
  iapply Hk
  isplitl [H3]; · iexact H3
  isplitl [H9]; · iexact H9
  iexact H8

/-- Part 7 of the body, met by what it reads and writes. -/
theorem part7_spec  (sc : S16x256.Idx → Elt F .f32) (dl : S2x128x1024.Idx → Elt F .fp8e5m2) (hx : S256x1024.Idx → Elt F .bf16) (o : S1024x1024.Idx → Elt F .f32) (K : (Σ' (v104 : BitVec 32) (c9496_i32_47 : BitVec 32) (v105 : BitVec 32) (v110 : BitVec 32) (v112 : BitVec 32), BitVec 32) → sProp 𝕄) :
    iprop((owns (Val := Elt F) (c : Thread nD τ) arg10 fullShare sc ∗ owns (Val := Elt F) (c : Thread nD τ) arg3 fullShare dl ∗ owns (Val := Elt F) (c : Thread nD τ) arg9 fullShare hx ∗ owns (Val := Elt F) (c : Thread nD τ) arg8 fullShare o) ∗ ((owns (Val := Elt F) (c : Thread nD τ) arg10 fullShare sc ∗ owns (Val := Elt F) (c : Thread nD τ) arg3 fullShare dl ∗ owns (Val := Elt F) (c : Thread nD τ) arg9 fullShare hx ∗ owns (Val := Elt F) (c : Thread nD τ) arg8 fullShare (VecWindow.put o ![256, 0] S256x1024.size (tile1 i dl hx sc))) -∗ K (words7 (BitVec.ofNat 32 (i 0).val))))
      ⊢ wp frame (wpE (defs₀ (F := F)) 𝒱₀ (c : Thread nD τ) none) E (k0_part7 i arg1 harg1 arg2 harg2 arg3 harg3 arg4 harg4 arg5 harg5 arg6 harg6 arg7 harg7 arg8 harg8 arg9 harg9 arg10 harg10 arg11 harg11 arg12 harg12 (BitVec.ofNat 32 (i 0).val) (words6 (BitVec.ofNat 32 (i 0).val)).1 (words6 (BitVec.ofNat 32 (i 0).val)).2.1 (words6 (BitVec.ofNat 32 (i 0).val)).2.2.1 (words6 (BitVec.ofNat 32 (i 0).val)).2.2.2) K := by
  rw [k0_part7_eq_skeleton]; unfold k0_part7_skel
  simp only [smemLoad, smemLoadElt, Prog.lift, Prog.bind_op, Prog.bind_ret, Prog.pure_eq_ret]
  iintro ⟨⟨H10, H3, H9, H8⟩, Hk⟩
  iapply (Owned.load 𝒱₀ (c : Thread nD τ) none E (m := arg10)) $$ H10; iintro H10
  iapply (Owned.load 𝒱₀ (c : Thread nD τ) none E (m := arg10)) $$ H10; iintro H10
  iapply (Owned.load 𝒱₀ (c : Thread nD τ) none E (m := arg3)) $$ H3; iintro H3
  iapply (Owned.load 𝒱₀ (c : Thread nD τ) none E (m := arg3)) $$ H3; iintro H3
  iapply (Owned.load 𝒱₀ (c : Thread nD τ) none E (m := arg9)) $$ H9; iintro H9
  iapply (Owned.load 𝒱₀ (c : Thread nD τ) none E (m := arg8)) $$ H8; iintro H8
  iapply (Owned.store 𝒱₀ (c : Thread nD τ) none E (m := arg8)) $$ H8; iintro H8
  rw [wp_ret]; imodintro
  simp only [words7]
  iapply Hk
  isplitl [H10]; · iexact H10
  isplitl [H3]; · iexact H3
  isplitl [H9]; · iexact H9
  iexact H8

/-- Part 8 of the body, met by what it reads and writes. -/
theorem part8_spec  (sc : S16x256.Idx → Elt F .f32) (dl : S2x128x1024.Idx → Elt F .fp8e5m2) (hx : S256x1024.Idx → Elt F .bf16) (o : S1024x1024.Idx → Elt F .f32) (K : FVec F S256x1024 .f32 → sProp 𝕄) :
    iprop((owns (Val := Elt F) (c : Thread nD τ) arg10 fullShare sc ∗ owns (Val := Elt F) (c : Thread nD τ) arg3 fullShare dl ∗ owns (Val := Elt F) (c : Thread nD τ) arg9 fullShare hx ∗ owns (Val := Elt F) (c : Thread nD τ) arg8 fullShare o) ∗ ((owns (Val := Elt F) (c : Thread nD τ) arg10 fullShare sc ∗ owns (Val := Elt F) (c : Thread nD τ) arg3 fullShare dl ∗ owns (Val := Elt F) (c : Thread nD τ) arg9 fullShare hx ∗ owns (Val := Elt F) (c : Thread nD τ) arg8 fullShare o) -∗ K (tile2 i dl hx sc)))
      ⊢ wp frame (wpE (defs₀ (F := F)) 𝒱₀ (c : Thread nD τ) none) E (k0_part8 i arg1 harg1 arg2 harg2 arg3 harg3 arg4 harg4 arg5 harg5 arg6 harg6 arg7 harg7 arg8 harg8 arg9 harg9 arg10 harg10 arg11 harg11 arg12 harg12 (words7 (BitVec.ofNat 32 (i 0).val)).1 (words7 (BitVec.ofNat 32 (i 0).val)).2.1 (words7 (BitVec.ofNat 32 (i 0).val)).2.2.1 (words7 (BitVec.ofNat 32 (i 0).val)).2.2.2.1 (words7 (BitVec.ofNat 32 (i 0).val)).2.2.2.2.1 (words7 (BitVec.ofNat 32 (i 0).val)).2.2.2.2.2) K := by
  rw [k0_part8_eq_skeleton]; unfold k0_part8_skel
  simp only [smemLoad, smemLoadElt, Prog.lift, Prog.bind_op, Prog.bind_ret, Prog.pure_eq_ret]
  iintro ⟨⟨H10, H3, H9, H8⟩, Hk⟩
  iapply (Owned.load 𝒱₀ (c : Thread nD τ) none E (m := arg10)) $$ H10; iintro H10
  iapply (Owned.load 𝒱₀ (c : Thread nD τ) none E (m := arg10)) $$ H10; iintro H10
  iapply (Owned.load 𝒱₀ (c : Thread nD τ) none E (m := arg3)) $$ H3; iintro H3
  iapply (Owned.load 𝒱₀ (c : Thread nD τ) none E (m := arg3)) $$ H3; iintro H3
  iapply (Owned.load 𝒱₀ (c : Thread nD τ) none E (m := arg9)) $$ H9; iintro H9
  iapply (Owned.load 𝒱₀ (c : Thread nD τ) none E (m := arg8)) $$ H8; iintro H8
  rw [wp_ret]; imodintro
  simp only [tile2]
  iapply Hk
  isplitl [H10]; · iexact H10
  isplitl [H3]; · iexact H3
  isplitl [H9]; · iexact H9
  iexact H8

/-- Part 9 of the body, met by what it reads and writes. -/
theorem part9_spec (v151 : FVec F S256x1024 .f32) (o : S1024x1024.Idx → Elt F .f32) (sc : S16x256.Idx → Elt F .f32) (dl : S2x128x1024.Idx → Elt F .fp8e5m2) (K : (Σ' (v190 : FVec F S256x256 .bf16), FVec F S128x256 .fp8e5m2) → sProp 𝕄) :
    iprop((owns (Val := Elt F) (c : Thread nD τ) arg8 fullShare o ∗ owns (Val := Elt F) (c : Thread nD τ) arg10 fullShare sc ∗ owns (Val := Elt F) (c : Thread nD τ) arg3 fullShare dl) ∗ ((owns (Val := Elt F) (c : Thread nD τ) arg8 fullShare (VecWindow.put o ![512, 0] S256x1024.size v151) ∗ owns (Val := Elt F) (c : Thread nD τ) arg10 fullShare sc ∗ owns (Val := Elt F) (c : Thread nD τ) arg3 fullShare dl) -∗ K ⟨k0_pay31 (BitVec.ofNat 32 (i 0).val) (VecWindow.window (s := S16x256) sc (k0_off1 i 768#32) S1x256.size (k0_off1_inb i 3)) (VecWindow.window (s := S16x256) sc (k0_off2 i 768#32) S1x256.size (k0_off2_inb i 3)), k0_pay32 (VecWindow.window (s := S2x128x1024) dl ![0, 0, 768] S1x128x256.size inb_S2x128x1024_S1x128x256_0_0_768)⟩))
      ⊢ wp frame (wpE (defs₀ (F := F)) 𝒱₀ (c : Thread nD τ) none) E (k0_part9 i arg1 harg1 arg2 harg2 arg3 harg3 arg4 harg4 arg5 harg5 arg6 harg6 arg7 harg7 arg8 harg8 arg9 harg9 arg10 harg10 arg11 harg11 arg12 harg12 (BitVec.ofNat 32 (i 0).val) v151) K := by
  rw [k0_part9_eq_skeleton]; unfold k0_part9_skel
  simp only [smemLoad, smemLoadElt, Prog.lift, Prog.bind_op, Prog.bind_ret, Prog.pure_eq_ret]
  iintro ⟨⟨H8, H10, H3⟩, Hk⟩
  iapply (Owned.store 𝒱₀ (c : Thread nD τ) none E (m := arg8)) $$ H8; iintro H8
  iapply (Owned.load 𝒱₀ (c : Thread nD τ) none E (m := arg10)) $$ H10; iintro H10
  iapply (Owned.load 𝒱₀ (c : Thread nD τ) none E (m := arg10)) $$ H10; iintro H10
  iapply (Owned.load 𝒱₀ (c : Thread nD τ) none E (m := arg3)) $$ H3; iintro H3
  rw [wp_ret]; imodintro
  iapply Hk
  isplitl [H8]; · iexact H8
  isplitl [H10]; · iexact H10
  iexact H3

/-- The whole body: from the position of the first id not below the block's start (at the first point it sets the
    position itself), it leaves the block at `blk`, the scratch buffers filled and the position at the first id not
    below the block's end. -/
theorem body_spec (ids : S256.Idx → Elt F .i32) (es : S256.Idx → Elt F .f32) (dl : S2x128x1024.Idx → Elt F .fp8e5m2) (dls : S2x128x16.Idx → Elt F .f32) (xc : S2x128x1024.Idx → Elt F .fp8e4m3) (xs : S2x128.Idx → Elt F .f32) (ec : S256x1024.Idx → Elt F .fp8e5m2) (o : S1024x1024.Idx → Elt F .f32) (hx : S256x1024.Idx → Elt F .bf16) (sc : S16x256.Idx → Elt F .f32) (e : S256x1024.Idx → Elt F .f32) (p : S1.Idx → Elt F .i32) (ok : Ids.Ok ids) (hp : pAt (F := F) i p = ptr (Ids.cnt ids (base i))) (K : PUnit → sProp 𝕄) :
    iprop((owns (Val := Elt F) (c : Thread nD τ) arg1 fullShare ids ∗ owns (Val := Elt F) (c : Thread nD τ) arg2 fullShare es ∗ owns (Val := Elt F) (c : Thread nD τ) arg3 fullShare dl ∗ owns (Val := Elt F) (c : Thread nD τ) arg4 fullShare dls ∗ owns (Val := Elt F) (c : Thread nD τ) arg5 fullShare xc ∗ owns (Val := Elt F) (c : Thread nD τ) arg6 fullShare xs ∗ owns (Val := Elt F) (c : Thread nD τ) arg7 fullShare ec ∗ owns (Val := Elt F) (c : Thread nD τ) arg8 fullShare o ∗ owns (Val := Elt F) (c : Thread nD τ) arg9 fullShare hx ∗ owns (Val := Elt F) (c : Thread nD τ) arg10 fullShare sc ∗ owns (Val := Elt F) (c : Thread nD τ) arg11 fullShare e ∗ owns (Val := Elt F) (c : Thread nD τ) arg12 fullShare p) ∗ ((owns (Val := Elt F) (c : Thread nD τ) arg1 fullShare ids ∗ owns (Val := Elt F) (c : Thread nD τ) arg2 fullShare es ∗ owns (Val := Elt F) (c : Thread nD τ) arg3 fullShare dl ∗ owns (Val := Elt F) (c : Thread nD τ) arg4 fullShare dls ∗ owns (Val := Elt F) (c : Thread nD τ) arg5 fullShare xc ∗ owns (Val := Elt F) (c : Thread nD τ) arg6 fullShare xs ∗ owns (Val := Elt F) (c : Thread nD τ) arg7 fullShare ec ∗ owns (Val := Elt F) (c : Thread nD τ) arg8 fullShare (blk i ids es dl (hxAt i xs xc hx) (scAt i dls sc) (eAt i ec e) o) ∗ owns (Val := Elt F) (c : Thread nD τ) arg9 fullShare (hxAt i xs xc hx) ∗ owns (Val := Elt F) (c : Thread nD τ) arg10 fullShare (scAt i dls sc) ∗ owns (Val := Elt F) (c : Thread nD τ) arg11 fullShare (eAt i ec e) ∗ owns (Val := Elt F) (c : Thread nD τ) arg12 fullShare (ptr (Ids.cnt ids (base i + 1024)))) -∗ K ⟨⟩))
      ⊢ wp frame (wpE (defs₀ (F := F)) 𝒱₀ (c : Thread nD τ) none) E (cc0_tied_dw i arg1 harg1 arg2 harg2 arg3 harg3 arg4 harg4 arg5 harg5 arg6 harg6 arg7 harg7 arg8 harg8 arg9 harg9 arg10 harg10 arg11 harg11 arg12 harg12) K := by
  rw [cc0_tied_dw_eq_skeleton]; unfold cc0_tied_dw_skel
  iintro ⟨⟨H1, H2, H3, H4, H5, H6, H7, H8, H9, H10, H11, H12⟩, Hk⟩

  rw [wp_bind]
  iapply (part5_spec c E i arg1 harg1 arg2 harg2 arg3 harg3 arg4 harg4 arg5 harg5 arg6 harg6 arg7 harg7 arg8 harg8 arg9 harg9 arg10 harg10 arg11 harg11 arg12 harg12 _ _ _ _ _ _ _ _ _)
  isplitl [H12 H7 H11 H6 H5 H9 H4 H10]
  · isplitl [H12]; · iexact H12
    isplitl [H7]; · iexact H7
    isplitl [H11]; · iexact H11
    isplitl [H6]; · iexact H6
    isplitl [H5]; · iexact H5
    isplitl [H9]; · iexact H9
    isplitl [H4]; · iexact H4
    iexact H10
  iintro ⟨H12, H7, H11, H6, H5, H9, H4, H10⟩
  dsimp only

  rw [wp_bind]
  iapply (part6_spec c E i arg1 harg1 arg2 harg2 arg3 harg3 arg4 harg4 arg5 harg5 arg6 harg6 arg7 harg7 arg8 harg8 arg9 harg9 arg10 harg10 arg11 harg11 arg12 harg12 _ _ _ _ _)
  isplitl [H3 H9 H8]
  · isplitl [H3]; · iexact H3
    isplitl [H9]; · iexact H9
    iexact H8
  iintro ⟨H3, H9, H8⟩
  dsimp only

  rw [wp_bind]
  iapply (part7_spec c E i arg1 harg1 arg2 harg2 arg3 harg3 arg4 harg4 arg5 harg5 arg6 harg6 arg7 harg7 arg8 harg8 arg9 harg9 arg10 harg10 arg11 harg11 arg12 harg12 _ _ _ _ _)
  isplitl [H10 H3 H9 H8]
  · isplitl [H10]; · iexact H10
    isplitl [H3]; · iexact H3
    isplitl [H9]; · iexact H9
    iexact H8
  iintro ⟨H10, H3, H9, H8⟩
  dsimp only

  rw [wp_bind]
  iapply (part8_spec c E i arg1 harg1 arg2 harg2 arg3 harg3 arg4 harg4 arg5 harg5 arg6 harg6 arg7 harg7 arg8 harg8 arg9 harg9 arg10 harg10 arg11 harg11 arg12 harg12 _ _ _ _ _)
  isplitl [H10 H3 H9 H8]
  · isplitl [H10]; · iexact H10
    isplitl [H3]; · iexact H3
    isplitl [H9]; · iexact H9
    iexact H8
  iintro ⟨H10, H3, H9, H8⟩

  rw [wp_bind]
  iapply (part9_spec c E i arg1 harg1 arg2 harg2 arg3 harg3 arg4 harg4 arg5 harg5 arg6 harg6 arg7 harg7 arg8 harg8 arg9 harg9 arg10 harg10 arg11 harg11 arg12 harg12 _ _ _ _ _)
  isplitl [H8 H10 H3]
  · isplitl [H8]; · iexact H8
    isplitl [H10]; · iexact H10
    iexact H3
  iintro ⟨H8, H10, H3⟩
  dsimp only

  simp only [smemLoad, smemLoadElt, Prog.lift, Prog.bind_op, Prog.bind_ret, Prog.pure_eq_ret]

  iapply (Owned.load 𝒱₀ (c : Thread nD τ) none E (m := arg3)) $$ H3; iintro H3
  iapply (Owned.load 𝒱₀ (c : Thread nD τ) none E (m := arg9)) $$ H9; iintro H9
  iapply (Owned.load 𝒱₀ (c : Thread nD τ) none E (m := arg8)) $$ H8; iintro H8
  iapply (Owned.store 𝒱₀ (c : Thread nD τ) none E (m := arg8)) $$ H8; iintro H8
  iapply (Owned.load 𝒱₀ (c : Thread nD τ) none E (m := arg12)) $$ H12; iintro H12

  have hj : Ids.cnt ids (base i) + (Ids.cnt ids (base i + 1024) - Ids.cnt ids (base i)) = Ids.cnt ids (base i + 1024) := by
    have := Ids.cnt_mono ids (b := base i) (b' := base i + 1024) (by omega)
    omega
  rw [hp]
  iapply (wp_call_spec 𝒱₀ (c : Thread nD τ) none E (spec c i ids es (eAt i ec e) arg1 arg8 arg11 arg2 fullShare fullShare (Ids.cnt ids (base i))
      (Ids.cnt ids (base i + 1024) - Ids.cnt ids (base i)) (tiles i dl (hxAt i xs xc hx) (scAt i dls sc) o)) _ (fun u hu => nomatch hu)
    (spec_le c i ids es (eAt i ec e) arg1 harg1 arg8 harg8 arg11 harg11 arg2 harg2 fullShare fullShare ok E
      (Ids.cnt ids (base i + 1024) - Ids.cnt ids (base i)) (Ids.cnt ids (base i)) hj le_rfl (tiles i dl (hxAt i xs xc hx) (scAt i dls sc) o)))
  rw [spec_apply]; unfold held
  isplitl [H1 H2 H11 H8]
  · isplitl [H1]; · iexact H1
    isplitl [H2]; · iexact H2
    isplitl [H11]; · iexact H11
    iexact H8
  iintro ⟨H1, H2, H11, H8⟩
  rw [hj]

  iapply (Owned.load 𝒱₀ (c : Thread nD τ) none E (m := arg12)) $$ H12; iintro H12
  iapply (Owned.store 𝒱₀ (c : Thread nD τ) none E (m := arg12)) $$ H12; iintro H12

  rw [put_one]
  rw [wp_ret]; imodintro
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

end Parts

end Cert.Proof.K

end
-- ==== Proof.K.Obl.lean ====
/-
  The pipeline's proof data and its body obligation. The kernel's grid has one axis of 149 points; six of the windows are
  whole arrays, the window of the gradient and the window of the result walk along the vocabulary, and their last block
  sticks out of the array. The invariant between the points is that the scratch buffers hold what the first point filled
  them with (a condition `Good` on them that a caller chooses) and that the kept position of the loop is the number of ids
  below the next block's first row.
-/
module

public import proofs.«01_k».proof.Proof.K.Body
public import proofs.«01_k».proof.Proof.Gen.Kernel.Launch
public import proofs.«01_k».proof.Proof.Gen.Kernel.Points
public import Idealize.ShloMosaic.Lib.Pipeline.FrameBody
public import Idealize.ShloMosaic.Lib.Pipeline.ValueKit

@[expose] public section

noncomputable section

namespace Cert.Proof.K

open Cert.Kernel Cert.Kernel.Gen Cert.Proof

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.WordArith
open Idealize.ShloMosaic.Pipeline (Dat Cfg Window BodyObligation BodyObligationLoose cellOf)

variable {F : FTy → Type} [FloatOps F]

local notation "𝕄" => MT nD τ sig Unit (Elt F) ℕ (UR nD τ) ℕ

variable (m : (ℓ : Loc nD τ sig) → Buf (Elt F) ℓ)

/-! ## The arguments -/

/-- The seven argument arrays as the launch finds them. -/
def mDl (c : Dev nD) : S2x128x151936.Idx → Elt F .fp8e5m2 := m ((c : Thread nD τ).loc main_arg0)
def mDls (c : Dev nD) : S2x128x16.Idx → Elt F .f32 := m ((c : Thread nD τ).loc main_arg1)
def mXc (c : Dev nD) : S2x128x1024.Idx → Elt F .fp8e4m3 := m ((c : Thread nD τ).loc main_arg2)
def mXs (c : Dev nD) : S2x128.Idx → Elt F .f32 := m ((c : Thread nD τ).loc main_arg3)
def mEc (c : Dev nD) : S256x1024.Idx → Elt F .fp8e5m2 := m ((c : Thread nD τ).loc main_arg4)
def mEs (c : Dev nD) : S256.Idx → Elt F .f32 := m ((c : Thread nD τ).loc main_arg5)
def mIds (c : Dev nD) : S256.Idx → Elt F .i32 := m ((c : Thread nD τ).loc main_arg6)

/-! ## The grid -/

/-- A point's one coordinate is its number. -/
theorem coord_val (t : Fin grid0.N) : (grid0.coords t 0).val = t.val := by
  have h := Pipeline.Grid.coords_val (G := grid0) t 0 (S := 1) (B := 149) (by decide) rfl
  have h' : t.val < 149 := lt_of_lt_of_eq t.isLt N_0
  rw [h, Nat.div_one, Nat.mod_eq_of_lt h']

/-- The first vocabulary row of point `t`'s block. -/
theorem base_coords (t : Fin grid0.N) : base (grid0.coords t) = 1024 * t.val := by
  unfold base; rw [coord_val]

/-- The first point is the one at which the body fills the scratch buffers. -/
theorem firstBit_iff (t : Fin grid0.N) : firstBit (grid0.coords t) = 1#1 ↔ t.val = 0 := by
  have key : ∀ n : Fin 149, (Scalar.cmpi .ne (Scalar.extui (Scalar.cmpi .eq (BitVec.ofNat 32 n.val) 0#32) : BitVec 32) 0#32 = 1#1) ↔ n.val = 0 := by
    decide +kernel
  have h' : t.val < 149 := lt_of_lt_of_eq t.isLt N_0
  unfold firstBit
  rw [coord_val]
  exact key ⟨t.val, h'⟩

/-! ## The input windows' blocks: the arrays, whole -/

theorem read_blk_0 (t : Fin grid0.N) (X : S256.Idx → Elt F .i32) : (win0_0.blk t).view.read (Elt F) X = X := by
  funext y; exact congrArg X (by blk_ext [(show win0_0.index t 0 = 0 from rfl)])
theorem read_blk_1 (t : Fin grid0.N) (X : S256.Idx → Elt F .f32) : (win0_1.blk t).view.read (Elt F) X = X := by
  funext y; exact congrArg X (by blk_ext [(show win0_1.index t 0 = 0 from rfl)])
theorem read_blk_3 (t : Fin grid0.N) (X : S2x128x16.Idx → Elt F .f32) : (win0_3.blk t).view.read (Elt F) X = X := by
  funext y; exact congrArg X (by blk_ext [(show win0_3.index t 0 = 0 from rfl), (show win0_3.index t 1 = 0 from rfl), (show win0_3.index t 2 = 0 from rfl)])
theorem read_blk_4 (t : Fin grid0.N) (X : S2x128x1024.Idx → Elt F .fp8e4m3) : (win0_4.blk t).view.read (Elt F) X = X := by
  funext y; exact congrArg X (by blk_ext [(show win0_4.index t 0 = 0 from rfl), (show win0_4.index t 1 = 0 from rfl), (show win0_4.index t 2 = 0 from rfl)])
theorem read_blk_5 (t : Fin grid0.N) (X : S2x128.Idx → Elt F .f32) : (win0_5.blk t).view.read (Elt F) X = X := by
  funext y; exact congrArg X (by blk_ext [(show win0_5.index t 0 = 0 from rfl), (show win0_5.index t 1 = 0 from rfl)])
theorem read_blk_6 (t : Fin grid0.N) (X : S256x1024.Idx → Elt F .fp8e5m2) : (win0_6.blk t).view.read (Elt F) X = X := by
  funext y; exact congrArg X (by blk_ext [(show win0_6.index t 0 = 0 from rfl), (show win0_6.index t 1 = 0 from rfl)])

/-! ## The proof data -/

variable (Good : Dev nD → (S256x1024.Idx → Elt F .bf16) → (S16x256.Idx → Elt F .f32) → (S256x1024.Idx → Elt F .f32) → Prop)
variable (out7 : Dev nD → Fin grid0.N → S1024x1024.Idx → Elt F .f32)

/-- Between the points: the four scratch buffers, past the first point with what it filled them with and with the number
    of ids below the next block's first row. -/
def PhiN (c : Dev nD) (n : ℕ) : sProp 𝕄 :=
  iprop(∃ hx sc e p, owns (c : Thread nD τ) (Memref.whole cc0_scratch0) fullShare hx ∗ owns (c : Thread nD τ) (Memref.whole cc0_scratch1) fullShare sc
    ∗ owns (c : Thread nD τ) (Memref.whole cc0_scratch2) fullShare e ∗ owns (c : Thread nD τ) (Memref.whole cc0_scratch3) fullShare p
    ∗ ⌜n ≠ 0 → Good c hx sc e ∧ p = ptr (F := F) (Ids.cnt (mIds m c) (1024 * n))⌝)

/-- The gradient's block at point `t`, the part past the array's end being anything. -/
def dlAny (c : Dev nD) (t : Fin grid0.N) : S2x128x1024.Idx → Elt F .fp8e5m2 :=
  win0_2.fill (grid0.coords t) (fun _ => mDl m c (fun a => ⟨0, by fin_cases a <;> decide⟩)) ((win0_2.blk t).view.read (Elt F) (mDl m c))

/-- The pipeline's proof data: the arrays as launched; the body leaves its input blocks as they are. -/
def dats (_ : Fin 1) (c : Dev nD) : Dat τ (Elt F) Unit ℕ (UR nD τ) ℕ (cfg0 (F := F)) c where
  A w := m ((c : Thread nD τ).loc (Pipeline.arrRef spec0 w))
  after w t := match w with
    | ⟨0, _⟩ => mIds m c
    | ⟨1, _⟩ => mEs m c
    | ⟨2, _⟩ => dlAny m c t
    | ⟨3, _⟩ => mDls m c
    | ⟨4, _⟩ => mXc m c
    | ⟨5, _⟩ => mXs m c
    | ⟨6, _⟩ => mEc m c
    | ⟨7, _⟩ => out7 c t
  Φ t := PhiN m Good c t.val
  q _ := fullShare
  owed _ := 0

theorem after_0 (c : Dev nD) (t : Fin (cfg0 (F := F)).N) : (dats m Good out7 0 c).after 0 t = mIds m c := rfl
theorem after_1 (c : Dev nD) (t : Fin (cfg0 (F := F)).N) : (dats m Good out7 0 c).after 1 t = mEs m c := rfl
theorem after_2 (c : Dev nD) (t : Fin (cfg0 (F := F)).N) : (dats m Good out7 0 c).after 2 t = dlAny m c t := rfl
theorem after_3 (c : Dev nD) (t : Fin (cfg0 (F := F)).N) : (dats m Good out7 0 c).after 3 t = mDls m c := rfl
theorem after_4 (c : Dev nD) (t : Fin (cfg0 (F := F)).N) : (dats m Good out7 0 c).after 4 t = mXc m c := rfl
theorem after_5 (c : Dev nD) (t : Fin (cfg0 (F := F)).N) : (dats m Good out7 0 c).after 5 t = mXs m c := rfl
theorem after_6 (c : Dev nD) (t : Fin (cfg0 (F := F)).N) : (dats m Good out7 0 c).after 6 t = mEc m c := rfl
theorem after_7 (c : Dev nD) (t : Fin (cfg0 (F := F)).N) : (dats m Good out7 0 c).after 7 t = out7 c t := rfl

theorem before_0 (c : Dev nD) (t : Fin (cfg0 (F := F)).N) (d) : (dats m Good out7 0 c).before 0 t d = mIds m c :=
  ((dats m Good out7 0 c).before_in_eq_fetched 0 rfl (fun _ => rfl) (fun _ _ _ => rfl) (fun t => by rw [after_0]; exact (read_blk_0 t (mIds m c)).symm) t d).trans
    (read_blk_0 t (mIds m c))
theorem before_1 (c : Dev nD) (t : Fin (cfg0 (F := F)).N) (d) : (dats m Good out7 0 c).before 1 t d = mEs m c :=
  ((dats m Good out7 0 c).before_in_eq_fetched 1 rfl (fun _ => rfl) (fun _ _ _ => rfl) (fun t => by rw [after_1]; exact (read_blk_1 t (mEs m c)).symm) t d).trans
    (read_blk_1 t (mEs m c))
theorem before_3 (c : Dev nD) (t : Fin (cfg0 (F := F)).N) (d) : (dats m Good out7 0 c).before 3 t d = mDls m c :=
  ((dats m Good out7 0 c).before_in_eq_fetched 3 rfl (fun _ => rfl) (fun _ _ _ => rfl) (fun t => by rw [after_3]; exact (read_blk_3 t (mDls m c)).symm) t d).trans
    (read_blk_3 t (mDls m c))
theorem before_4 (c : Dev nD) (t : Fin (cfg0 (F := F)).N) (d) : (dats m Good out7 0 c).before 4 t d = mXc m c :=
  ((dats m Good out7 0 c).before_in_eq_fetched 4 rfl (fun _ => rfl) (fun _ _ _ => rfl) (fun t => by rw [after_4]; exact (read_blk_4 t (mXc m c)).symm) t d).trans
    (read_blk_4 t (mXc m c))
theorem before_5 (c : Dev nD) (t : Fin (cfg0 (F := F)).N) (d) : (dats m Good out7 0 c).before 5 t d = mXs m c :=
  ((dats m Good out7 0 c).before_in_eq_fetched 5 rfl (fun _ => rfl) (fun _ _ _ => rfl) (fun t => by rw [after_5]; exact (read_blk_5 t (mXs m c)).symm) t d).trans
    (read_blk_5 t (mXs m c))
theorem before_6 (c : Dev nD) (t : Fin (cfg0 (F := F)).N) (d) : (dats m Good out7 0 c).before 6 t d = mEc m c :=
  ((dats m Good out7 0 c).before_in_eq_fetched 6 rfl (fun _ => rfl) (fun _ _ _ => rfl) (fun t => by rw [after_6]; exact (read_blk_6 t (mEc m c)).symm) t d).trans
    (read_blk_6 t (mEc m c))

/-- The gradient's block at point `t` with `d` past the array's end. -/
def dlAt (c : Dev nD) (t : Fin grid0.N) (d : S2x128x1024.Idx → Elt F .fp8e5m2) : S2x128x1024.Idx → Elt F .fp8e5m2 :=
  win0_2.fill (grid0.coords t) d ((win0_2.blk t).view.read (Elt F) (mDl m c))

theorem before_2 (c : Dev nD) (t : Fin (cfg0 (F := F)).N) (d) : (dats m Good out7 0 c).before 2 t d = dlAt m c t d :=
  (dats m Good out7 0 c).before_fetched 2 t (fetch0_2 t) d

/-- What is past the array's end is not what the transfers move. -/
theorem fill_dlAny (c : Dev nD) (t : Fin grid0.N) (d : S2x128x1024.Idx → Elt F .fp8e5m2) :
    win0_2.fill (grid0.coords t) d (win0_2.cut (grid0.coords t) (dlAny m c t)) = dlAt m c t d := by
  unfold dlAny dlAt
  rw [win0_2.cut_fill]

/-! ## The body at a point -/

/-- The result's block that the body at point `t` leaves, from what it finds in the scratch buffers. -/
def blkAt (c : Dev nD) (t : Fin grid0.N) (d : S2x128x1024.Idx → Elt F .fp8e5m2) (hx : S256x1024.Idx → Elt F .bf16) (sc : S16x256.Idx → Elt F .f32)
    (e : S256x1024.Idx → Elt F .f32) (o : S1024x1024.Idx → Elt F .f32) : S1024x1024.Idx → Elt F .f32 :=
  blk (grid0.coords t) (mIds m c) (mEs m c) (dlAt m c t d) hx sc e o

/-- The body at point `t`: from the invariant, the input blocks and anything in the result's buffer, to the invariant,
    the input blocks and the block computed from the filled scratch buffers. -/
theorem body_at (c : Dev nD) (ok : Ids.Ok (mIds m c))
    (hGood : ∀ hx sc e, Good c (hxFill (mXs m c) (mXc m c) hx) (scFill (mDls m c) sc) (eFill (mEc m c) e))
    (t : Fin grid0.N) (d : S2x128x1024.Idx → Elt F .fp8e5m2) (o : S1024x1024.Idx → Elt F .f32) (K : PUnit → sProp 𝕄) :
    iprop((PhiN m Good c t.val
        ∗ owns (c : Thread nD τ) (st0_0 (F := F) t) fullShare (mIds m c) ∗ owns (c : Thread nD τ) (st0_1 (F := F) t) fullShare (mEs m c)
        ∗ owns (c : Thread nD τ) (st0_2 (F := F) t) fullShare (dlAt m c t d) ∗ owns (c : Thread nD τ) (st0_3 (F := F) t) fullShare (mDls m c)
        ∗ owns (c : Thread nD τ) (st0_4 (F := F) t) fullShare (mXc m c) ∗ owns (c : Thread nD τ) (st0_5 (F := F) t) fullShare (mXs m c)
        ∗ owns (c : Thread nD τ) (st0_6 (F := F) t) fullShare (mEc m c) ∗ owns (c : Thread nD τ) (st0_7 (F := F) t) fullShare o)
      ∗ (iprop(PhiN m Good c (t.val + 1)
        ∗ owns (c : Thread nD τ) (st0_0 (F := F) t) fullShare (mIds m c) ∗ owns (c : Thread nD τ) (st0_1 (F := F) t) fullShare (mEs m c)
        ∗ owns (c : Thread nD τ) (st0_2 (F := F) t) fullShare (dlAt m c t d) ∗ owns (c : Thread nD τ) (st0_3 (F := F) t) fullShare (mDls m c)
        ∗ owns (c : Thread nD τ) (st0_4 (F := F) t) fullShare (mXc m c) ∗ owns (c : Thread nD τ) (st0_5 (F := F) t) fullShare (mXs m c)
        ∗ owns (c : Thread nD τ) (st0_6 (F := F) t) fullShare (mEc m c)
        ∗ (∃ hx sc e, ⌜Good c hx sc e⌝ ∗ owns (c : Thread nD τ) (st0_7 (F := F) t) fullShare (blkAt m c t d hx sc e o))) -∗ K ⟨⟩))
    ⊢ wp frame (wpE (defs₀ (F := F)) 𝒱₀ (c : Thread nD τ) none) Set.univ (bodyAt0 (F := F) t) K := by
  unfold PhiN
  iintro ⟨⟨⟨%hx, %sc, %e, %p, Hhx, Hsc, He, Hp, %hG⟩, H1, H2, H3, H4, H5, H6, H7, H8⟩, Hk⟩
  have hp : pAt (grid0.coords t) p = ptr (F := F) (Ids.cnt (mIds m c) (base (grid0.coords t))) := by
    unfold pAt
    rw [base_coords]
    by_cases h0 : t.val = 0
    · rw [if_pos ((firstBit_iff t).mpr h0), h0]
      rw [show Ids.cnt (mIds m c) (1024 * 0) = 0 from Ids.cnt_zero _]; rfl
    · rw [if_neg (fun h => h0 ((firstBit_iff t).mp h))]
      exact (hG h0).2
  have hgood : Good c (hxAt (grid0.coords t) (mXs m c) (mXc m c) hx) (scAt (grid0.coords t) (mDls m c) sc) (eAt (grid0.coords t) (mEc m c) e) := by
    unfold hxAt scAt eAt
    by_cases h0 : t.val = 0
    · simp only [if_pos ((firstBit_iff t).mpr h0)]; exact hGood _ _ _
    · simp only [if_neg (fun h => h0 ((firstBit_iff t).mp h))]; exact (hG h0).1
  iapply (body_spec c Set.univ (grid0.coords t) _ _ _ _ _ _ _ _ _ _ _ _ _ _ _ _ _ _ _ _ _ _ _ _
    (mIds m c) (mEs m c) (dlAt m c t d) (mDls m c) (mXc m c) (mXs m c) (mEc m c) o hx sc e p ok hp K)
  isplitl [H1 H2 H3 H4 H5 H6 H7 H8 Hhx Hsc He Hp]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [Hhx]; · iexact Hhx
    isplitl [Hsc]; · iexact Hsc
    isplitl [He]; · iexact He
    iexact Hp
  iintro ⟨H1, H2, H3, H4, H5, H6, H7, H8, Hhx, Hsc, He, Hp⟩
  iapply Hk
  isplitl [Hhx Hsc He Hp]
  · iexists _; iexists _; iexists _; iexists _
    isplitl [Hhx]; · iexact Hhx
    isplitl [Hsc]; · iexact Hsc
    isplitl [He]; · iexact He
    isplitl [Hp]; · iexact Hp
    ipureintro
    intro _
    refine ⟨hgood, ?_⟩
    rw [base_coords, Nat.mul_add, Nat.mul_one]
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexists _; iexists _
  isplitr
  · ipureintro; exact hgood
  iexact H8

/-- The body table's row at point `t`'s slots is the body as `bodyAt0` spells it. -/
theorem defs₀_row (t : Fin (cfg0 (F := F)).N) :
    defs₀ (F := F) .tc cfg0.body (cfg0.bodyArgs t (cfg0.slots t)) = bodyAt0 t := by
  unfold defs₀; rw [Defs.onTc_tc]

end Cert.Proof.K

end
-- ==== Proof.K.Run.lean ====
/-
  The kernel's run over bit patterns, with nothing claimed of the result's values: every weakly fair execution ends, nothing
  faults, the argument arrays end unchanged and every semaphore counter is zero. The result's window is forgotten: whatever
  the body leaves in its buffer, past the array's end included, is written back.
-/
module

public import proofs.«01_k».proof.Proof.K.Obl
public import Idealize.ShloMosaic.Lib.Pipeline.KitQuiescent
public import Idealize.ShloMosaic.PureOps.BitExact

@[expose] public section

noncomputable section

namespace Cert.Proof.K

open Cert.Kernel Cert.Kernel.Gen Cert.Proof

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR nD τ) ℕ

/-- The rounds algebra's embedding into the machine's. -/
def EP : Emb (UR nD τ) (MT nD τ sig Unit (Elt F) ℕ (UR nD τ) ℕ) :=
  (Emb.refl _).trans (uEmb (nD := nD) (sig := sig) (Ix := Unit) (Val := Elt F) (Name := ℕ) (U := UR nD τ) (Lvl := ℕ)).toEmb

instance EP_landsIn : (EP : Emb (UR nD τ) 𝕄).LandsIn (upEmb : UEmb _ 𝕄) := by unfold EP; infer_instance

/-- The launch element: every staging cell's owner and a token for every transfer the pipeline issues. -/
def u₀ : UR nD τ := Rounds.initOf (Pipeline.cells (cfgs (F := F)) cellOf_inj) (Pipeline.launchToks (cfgs (F := F)) cellOf_inj)

/-- Owning a whole buffer at contents `X` is its points-to at `X`. -/
theorem owns_whole_intro (c : Dev nD) (b : Ref sig .tc) (f : Buf (Elt F) (((c : Dev nD) : Thread nD τ).loc b)) :
    ((((c : Thread nD τ).loc b) ↦{fullShare} f) : sProp 𝕄)
      ⊢ (owns (Ix := Unit) (Name := ℕ) (U := UR nD τ) (Lvl := ℕ) (c : Thread nD τ) (Memref.whole b) fullShare f : sProp 𝕄) := by
  unfold owns; simp only [Memref.view_whole, View.read_whole, View.set_whole]
  iintro H; iexists f; isplitr; · ipureintro; rfl
  iexact H

theorem owns_whole_elim (c : Dev nD) (b : Ref sig .tc) (X : b.ty.Contents (Elt F)) :
    (owns (Ix := Unit) (Name := ℕ) (U := UR nD τ) (Lvl := ℕ) (c : Thread nD τ) (Memref.whole b) fullShare X : sProp 𝕄)
      ⊢ iprop(∃ f : Buf (Elt F) (((c : Dev nD) : Thread nD τ).loc b), (((c : Thread nD τ).loc b) ↦{fullShare} f)) := by
  unfold owns; simp only [Memref.view_whole, View.read_whole, View.set_whole]
  iintro ⟨%f, -, H⟩; iexists f; iexact H

section Inv

variable (m : (ℓ : Loc nD τ sig) → Buf (Elt F) ℓ)
variable (Good : Dev nD → (S256x1024.Idx → Elt F .bf16) → (S16x256.Idx → Elt F .f32) → (S256x1024.Idx → Elt F .f32) → Prop)

/-- Ahead of the first point the invariant asks nothing of the scratch buffers' contents, -/
theorem phi_intro (c : Dev nD) : (Pipeline.scopedRest (Ix := Unit) (Name := ℕ) (U := UR nD τ) (Lvl := ℕ) (Val := Elt F) spec0 c : sProp 𝕄) ⊢ PhiN m Good c 0 := by
  rw [scopedRest0_eq]; unfold PhiN
  iintro ⟨⟨%f0, H0⟩, ⟨%f1, H1⟩, ⟨%f2, H2⟩, ⟨%f3, H3⟩⟩
  iexists f0; iexists f1; iexists f2; iexists f3
  isplitl [H0]; · iapply (owns_whole_intro c cc0_scratch0 f0); iexact H0
  isplitl [H1]; · iapply (owns_whole_intro c cc0_scratch1 f1); iexact H1
  isplitl [H2]; · iapply (owns_whole_intro c cc0_scratch2 f2); iexact H2
  isplitl [H3]; · iapply (owns_whole_intro c cc0_scratch3 f3); iexact H3
  ipureintro; intro h; exact absurd rfl h

/-- and at the end the scratch buffers go back to the machine. -/
theorem phi_exit (c : Dev nD) (n : ℕ) : PhiN m Good c n ⊢ (Pipeline.scopedRest (Ix := Unit) (Name := ℕ) (U := UR nD τ) (Lvl := ℕ) (Val := Elt F) spec0 c : sProp 𝕄) := by
  rw [scopedRest0_eq]; unfold PhiN
  iintro ⟨%f0, %f1, %f2, %f3, H0, H1, H2, H3, -⟩
  isplitl [H0]; · iapply (owns_whole_elim c cc0_scratch0 f0); iexact H0
  isplitl [H1]; · iapply (owns_whole_elim c cc0_scratch1 f1); iexact H1
  isplitl [H2]; · iapply (owns_whole_elim c cc0_scratch2 f2); iexact H2
  iapply (owns_whole_elim c cc0_scratch3 f3); iexact H3

end Inv

/-! ## The frame -/

section Frame

variable (m : (ℓ : Loc nD τ sig) → Buf (Elt F) ℓ) (ρ : Dev nD → PrngReg)

/-- The windows whose contents the run does not follow: the result's. -/
abbrev fgt : Fin 8 → Bool := fun w => decide (w = 7)

/-- The data: nothing asked of the scratch buffers' contents. -/
abbrev datsF [∀ e, Nonempty (Elt F e)] : (p : Fin 1) → (c : Dev nD) → Dat τ (Elt F) Unit ℕ (UR nD τ) ℕ (cfg0 (F := F)) c :=
  dats m (fun _ _ _ _ => True) (fun _ _ _ => Classical.arbitrary _)

variable [∀ e, Nonempty (Elt F e)]

/-- The gradient's block, described only on the part the transfers move. -/
theorem owns_fill (c : Dev nD) (t : Fin (cfg0 (F := F)).N) (d : S2x128x1024.Idx → Elt F .fp8e5m2) :
    (owns (c : Thread nD τ) (st0_2 (F := F) t) fullShare (dlAt m c t d) : sProp 𝕄)
      ⊢ owns (c : Thread nD τ) (st0_2 (F := F) t) fullShare (win0_2.fill (grid0.coords t) d (win0_2.cut (grid0.coords t) (dlAny m c t))) := by
  exact (congrArg (fun X => (owns (c : Thread nD τ) (st0_2 (F := F) t) fullShare X : sProp 𝕄)) (fill_dlAny m c t d).symm) ▸ BI.Entails.refl _

/-- The body at a point, in the shape the library asks for, the result's window forgotten. -/
theorem sound_body (c : Dev nD) (ok : Ids.Ok (mIds m c)) (t : Fin (cfg0 (F := F)).N) :
    iprop((datsF m 0 c).Φ t.castSucc ∗ (datsF m 0 c).owesAt () t.castSucc
      ∗ (∃ d, owns (c : Thread nD τ) (st0_0 t) fullShare ((datsF m 0 c).before 0 t d))
      ∗ (∃ d, owns (c : Thread nD τ) (st0_1 t) fullShare ((datsF m 0 c).before 1 t d))
      ∗ (∃ d, owns (c : Thread nD τ) (st0_2 t) fullShare ((datsF m 0 c).before 2 t d))
      ∗ (∃ d, owns (c : Thread nD τ) (st0_3 t) fullShare ((datsF m 0 c).before 3 t d))
      ∗ (∃ d, owns (c : Thread nD τ) (st0_4 t) fullShare ((datsF m 0 c).before 4 t d))
      ∗ (∃ d, owns (c : Thread nD τ) (st0_5 t) fullShare ((datsF m 0 c).before 5 t d))
      ∗ (∃ d, owns (c : Thread nD τ) (st0_6 t) fullShare ((datsF m 0 c).before 6 t d))
      ∗ (∃ X, owns (c : Thread nD τ) (st0_7 t) fullShare X))
    ⊢ wp frame (wpE (defs₀ (F := F)) 𝒱₀ (c : Thread nD τ) none) Set.univ (bodyAt0 t) (fun _ =>
      iprop((datsF m 0 c).Φ t.succ ∗ (datsF m 0 c).owesAt () t.succ
      ∗ owns (c : Thread nD τ) (st0_0 t) fullShare ((datsF m 0 c).after 0 t)
      ∗ owns (c : Thread nD τ) (st0_1 t) fullShare ((datsF m 0 c).after 1 t)
      ∗ (∃ d, owns (c : Thread nD τ) (st0_2 t) fullShare (win0_2.fill (grid0.coords t) d (win0_2.cut (grid0.coords t) ((datsF m 0 c).after 2 t))))
      ∗ owns (c : Thread nD τ) (st0_3 t) fullShare ((datsF m 0 c).after 3 t)
      ∗ owns (c : Thread nD τ) (st0_4 t) fullShare ((datsF m 0 c).after 4 t)
      ∗ owns (c : Thread nD τ) (st0_5 t) fullShare ((datsF m 0 c).after 5 t)
      ∗ owns (c : Thread nD τ) (st0_6 t) fullShare ((datsF m 0 c).after 6 t)
      ∗ (∃ X, owns (c : Thread nD τ) (st0_7 t) fullShare X))) := by
  simp only [before_0, before_1, before_2, before_3, before_4, before_5, before_6,
    after_0, after_1, after_2, after_3, after_4, after_5, after_6]
  rw [show (datsF m 0 c).Φ t.castSucc = PhiN m (fun _ _ _ _ => True) c t.val from rfl,
    show (datsF m 0 c).Φ t.succ = PhiN m (fun _ _ _ _ => True) c (t.val + 1) from rfl,
    show (datsF m 0 c).owesAt () t.succ = (datsF m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%o, H7⟩⟩
  iapply (body_at m (fun _ _ _ _ => True) c ok (fun _ _ _ => trivial) t d2 o _)
  isplitl [HΦ H0 H1 H2 H3 H4 H5 H6 H7]
  · isplitl [HΦ]; · iexact HΦ
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro ⟨HΦ, H0, H1, H2, H3, H4, H5, H6, ⟨%hx, %sc, %e, -, H7⟩⟩
  isplitl [HΦ]; · iexact HΦ
  isplitl [Ho]; · iexact Ho
  isplitl [H0]; · iexact H0
  isplitl [H1]; · iexact H1
  isplitl [H2]
  · iexists d2; iapply (owns_fill m c t d2); iexact H2
  isplitl [H3]; · iexact H3
  isplitl [H4]; · iexact H4
  isplitl [H5]; · iexact H5
  isplitl [H6]; · iexact H6
  iexists _; iexact H7

/-- The library's body obligation with the result's window forgotten. -/
theorem body_obligation (c : Dev nD) (ok : Ids.Ok (mIds m c)) :
    BodyObligationLoose (datsF m 0 c) (defs₀ (F := F)) 𝒱₀ () Set.univ fgt := fun t => by
  rw [bigSep_W0, bigSep_W0, defs₀_row]
  exact triple_restated (sound_body m c ok t) rfl .rfl fun _ => .rfl

/-- The invariant at the first point, from the region's scratch buffers, -/
theorem phi_first (c : Dev nD) : iprop(emp ∗ Pipeline.scopedRest spec0 c) ⊢ (datsF m 0 c).Φ 0 := by
  rw [show (datsF m 0 c).Φ 0 = PhiN m (fun _ _ _ _ => True) c 0 from rfl]
  iintro ⟨-, H⟩; iapply (phi_intro m (fun _ _ _ _ => True) c); iexact H

/-- and back to them at the last. -/
theorem phi_last (c : Dev nD) : (datsF m 0 c).Φ (Fin.last (cfg0 (F := F)).N)
    ⊢ iprop(emp ∗ Pipeline.ownSems0 (fun k : PEmpty => k.elim) c ∗ Pipeline.scopedRest spec0 c) := by
  rw [show (datsF m 0 c).Φ (Fin.last (cfg0 (F := F)).N) = PhiN m (fun _ _ _ _ => True) c (Fin.last (cfg0 (F := F)).N).val from rfl]
  iintro H
  isplitr; · iempintro
  isplitr; · rw [Pipeline.ownSems0_none]; iempintro
  iapply (phi_exit m (fun _ _ _ _ => True) c _); iexact H

/-- THE FRAME: with the ids sorted and not negative, every weakly fair execution of the kernel ends, with the argument
    arrays unchanged and every semaphore counter at zero. -/
theorem frame (hok : ∀ c, Ids.Ok (mIds m c)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_region_kit_forget_quiescent cfgs (datsF m) () (0 : Fin 1) launch0 (Pipeline.OwnSemFacts.none _) EP defs₀ 𝒱₀ fgt m ρ main
    (hbody := fun c => body_obligation m c (hok c)) (hshare := fun c => (datsF m 0 c).share_full fun _ => rfl) (howed := fun _ _ => rfl)
    (G := fun _ => iprop(emp)) (u₀ := u₀ (F := F))
    (hu₀ := by
      iintro H; imodintro
      isplitl [H]
      · iapply (show (ownU (u₀ (F := F)) : sProp 𝕄) ⊢ BI.own (EP (Rounds.initOf (Pipeline.cells (cfgs (F := F)) cellOf_inj) (Pipeline.launchToks (cfgs (F := F)) cellOf_inj))) from BI.Entails.refl _); iexact H
      · rw [show (bigSep (Finset.univ : Finset (Dev nD)) (fun _ => (iprop(emp) : sProp 𝕄))) = BI.emp from bigSep_emp_const _]; iempintro)
    (V := fun c b => m ((c : Thread nD τ).loc b))
    (hmain := fun c Q => by
      simp only [main, Prog.lift, Prog.bind_op, Prog.bind_ret]
      iintro ⟨Hk, Hb⟩; iapply Hk; iexact Hb)
    (hA := fun _ _ => rfl)
    (X := fun _ => iprop(emp)) (Y := fun _ => iprop(emp)) (Z := fun _ => iprop(emp))
    (hX := fun c => by iintro -; imodintro; isplitr <;> iempintro)
    (hin := phi_first m) (hout := phi_last m)
    (QY := fun _ _ => True)
    (hY := fun c s' => by
      iintro ⟨-, -, HSI⟩; imodintro
      isplitr; · ipureintro; trivial
      iexact HSI)
    (hQ := fun s h hz => ⟨fun c => by
      have hw : ∀ w : Fin 8, fgt w = false → (win0 w).isOut = false →
          s.mem ((c.tc : Thread nD τ).loc (Pipeline.arrRef spec0 w)) = m ((c.tc : Thread nD τ).loc (Pipeline.arrRef spec0 w)) := fun w hf hi =>
        ((Pipeline.Dat.toRForget_arrAt_iff (datsF m 0 c) (fgt := fgt) (w := w) hf _ _).mp ((h c).1 w)).trans
          ((datsF m 0 c).arrAt_in w hi _)
      exact ⟨hw 2 rfl rfl, hw 3 rfl rfl, hw 4 rfl rfl, hw 5 rfl rfl, hw 6 rfl rfl, hw 1 rfl rfl, hw 0 rfl rfl⟩, hz⟩)

end Frame

end Cert.Proof.K

end
-- ==== Proof.KI.Loop.lean ====
/-
  The kernel's while loop. It walks the sorted ids from the position `j` it is given as long as an id lies below the end
  of the block's 1024 rows, and adds the id's scaled embedding row to that row of the block. Called at the first position
  whose id is not below the block's start, it reaches the first position whose id is not below the block's end, and every
  row it touches lies inside the block.
-/
module

public import proofs.«01_k».proof.Proof.Gen.KernelIdeal.Skeleton
public import proofs.«01_k».proof.Proof.Gen.KernelIdeal.Launch
public import proofs.«01_k».proof.Proof.Lib.Owned
public import proofs.«01_k».proof.Proof.Lib.Count
public import Idealize.ShloMosaic.Lib.Tactic

@[expose] public section

noncomputable section

namespace Cert.Proof.KI

open Cert.KernelIdeal Cert.KernelIdeal.Gen Cert.Proof

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.WordArith

variable {F : FTy → Type} [FloatOps F]

/-- The ghost algebra: the rounds library's over the machine's cells, duties named by `Unit`. -/
abbrev UR (nD : Nat) (τ : Topo) : Type := URounds (GSem nD τ sig) Unit

local notation "𝕄" => MT nD τ sig Unit (Elt F) ℕ (UR nD τ) ℕ

/-- The loop's variant: the number of trips still to run. -/
abbrev 𝒱₀ : Variants := Variants.nat

/-! ## The words -/

/-- The block's first row. -/
def base (i : grid0.Coords) : ℕ := 1024 * (i 0).val

theorem i_lt (i : grid0.Coords) : (i 0).val < 149 := (i 0).isLt

/-- The index of the one word of a one-word load. -/
abbrev one : S1.Idx := Shape.Idx.first (numel1_S1.symm ▸ Nat.one_pos)

theorem one_val (a : Fin 1) : (one a).val = 0 := by
  have := (one a).isLt
  have h : S1.size a = 1 := by fin_cases a; rfl
  omega

theorem toInt_small {x : BitVec 32} (h : x.toNat < 2 ^ 31) : x.toInt = x.toNat := by
  rw [BitVec.toInt_eq_toNat_of_lt (by omega)]

theorem slt_iff {x y : BitVec 32} (hx : x.toNat < 2 ^ 31) (hy : y.toNat < 2 ^ 31) :
    Scalar.cmpi .slt x y = BitVec.ofBool (decide (x.toNat < y.toNat)) := by
  show BitVec.ofBool (x.slt y) = _
  rw [BitVec.slt_eq_decide, toInt_small hx, toInt_small hy]
  congr 1; simp

theorem off3_eq (p : ℕ) (hp : p ≤ 256) : k0_off3 (BitVec.ofNat 32 p) 0 = min p 255 := by
  show (IntOp.minsi (BitVec.ofNat 32 p) 255#32).toNat = _
  rw [toNat_minsi_of_lt _ _ (by rw [BitVec.toNat_ofNat]; omega) (by decide), BitVec.toNat_ofNat]
  show min (p % 2 ^ 32) 255 = _
  omega

theorem off4_eq (p : ℕ) (hp : p ≤ 256) : k0_off4 (BitVec.ofNat 32 p) 0 = p := by
  show (BitVec.ofNat 32 p).toNat = _
  rw [BitVec.toNat_ofNat]; omega

theorem off6_eq (p : ℕ) (hp : p ≤ 256) : k0_off6 (BitVec.ofNat 32 p) 0 = p := by
  show (BitVec.ofNat 32 p).toNat = _
  rw [BitVec.toNat_ofNat]; omega

theorem off7_eq (p : ℕ) (hp : p ≤ 256) : k0_off7 (BitVec.ofNat 32 p) 0 = p := by
  show (BitVec.ofNat 32 p).toNat = _
  rw [BitVec.toNat_ofNat]; omega

theorem chk1_ok (p : ℕ) (hp : p ≤ 256) : k0_chk1 (BitVec.ofNat 32 p) := by
  intro a
  fin_cases a
  show k0_off3 (BitVec.ofNat 32 p) 0 + 1 ≤ 256
  rw [off3_eq p hp]; omega

theorem chk2_ok (p : ℕ) (hp : p < 256) : k0_chk2 (BitVec.ofNat 32 p) := by
  refine ⟨?_, ?_, ?_⟩
  · intro a; fin_cases a
    show k0_off4 (BitVec.ofNat 32 p) 0 + 1 ≤ 256
    rw [off4_eq p hp.le]; omega
  · intro a; fin_cases a
    · show k0_off6 (BitVec.ofNat 32 p) 0 + 1 ≤ 256
      rw [off6_eq p hp.le]; omega
    · show 0 + 1024 ≤ 1024
      omega
  · intro a; fin_cases a
    show k0_off7 (BitVec.ofNat 32 p) 0 + 1 ≤ 256
    rw [off7_eq p hp.le]; omega

theorem base_toNat (i : grid0.Coords) : (Scalar.muli (BitVec.ofNat 32 (i 0).val) 1024#32).toNat = base i := by
  have := i_lt i
  show (BitVec.ofNat 32 (i 0).val * 1024#32).toNat = _
  rw [BitVec.toNat_mul, BitVec.toNat_ofNat]
  show (i 0).val % 2 ^ 32 * 1024 % 2 ^ 32 = 1024 * (i 0).val
  omega

theorem end_toNat (i : grid0.Coords) :
    (Scalar.addi (Scalar.muli (BitVec.ofNat 32 (i 0).val) 1024#32) 1024#32).toNat = base i + 1024 := by
  have := i_lt i
  have hb := base_toNat i
  show (Scalar.muli (BitVec.ofNat 32 (i 0).val) 1024#32 + 1024#32).toNat = _
  rw [BitVec.toNat_add, hb]
  unfold base
  show (1024 * (i 0).val + 1024) % 2 ^ 32 = _
  omega

theorem off5_eq (i : grid0.Coords) (w : BitVec 32) (h : base i ≤ w.toNat) : k0_off5 i w 0 = w.toNat - base i := by
  have hb := base_toNat i
  have := w.isLt
  show (w - Scalar.muli (BitVec.ofNat 32 (i 0).val) 1024#32).toNat = _
  rw [BitVec.toNat_sub_of_le (by rw [BitVec.le_def, hb]; exact h), hb]

theorem chk3_ok (i : grid0.Coords) (w : BitVec 32) (h : base i ≤ w.toNat) (h' : w.toNat < base i + 1024) : k0_chk3 i w := by
  intro a; fin_cases a
  · show k0_off5 i w 0 + 1 ≤ 1024
    rw [off5_eq i w h]; omega
  · show 0 + 1024 ≤ 1024
    omega

/-- The word a one-word load at position `q` reads. -/
theorem window_at {α : Type} (x : S256.Idx → α) (off : Fin 1 → ℕ) (inb : ∀ a, off a + S1.size a ≤ S256.size a) (q : ℕ) (h : off 0 = q) (hq : q < 256) :
    VecWindow.window (s := S256) x off S1.size inb one = x (Ids.at1 q hq) := by
  refine congrArg x (funext fun a => Fin.ext ?_)
  fin_cases a
  show off 0 + 1 * (one 0).val = q
  rw [one_val 0]; omega

/-! ## One trip, and the trips from a position -/

section Steps
variable (i : grid0.Coords) (ids : S256.Idx → BitVec 32) (es : S256.Idx → Elt F .f32) (e : S256x1024.Idx → Elt F .f32)

/-- The block after the trip at position `j`: the row of the `j`-th id replaced by itself plus the `j`-th embedding row
    scaled. -/
def oStep (j : ℕ) (o : S1024x1024.Idx → Elt F .f32) : S1024x1024.Idx → Elt F .f32 :=
  if h2 : k0_chk2 (BitVec.ofNat 32 j) then
    if h3 : k0_chk3 i (VecWindow.window (s := S256) ids (k0_off4 (BitVec.ofNat 32 j)) S1.size h2.1 one) then
      VecWindow.put o (k0_off5 i (VecWindow.window (s := S256) ids (k0_off4 (BitVec.ofNat 32 j)) S1.size h2.1 one)) S1x1024.size
        (k0_pay2 (VecWindow.window (s := S1024x1024) o (k0_off5 i (VecWindow.window (s := S256) ids (k0_off4 (BitVec.ofNat 32 j)) S1.size h2.1 one)) S1x1024.size h3)
          (VecWindow.window (s := S256x1024) e (k0_off6 (BitVec.ofNat 32 j)) S1x1024.size h2.2.1)
          (VecWindow.window (s := S256) es (k0_off7 (BitVec.ofNat 32 j)) S1.size h2.2.2 one))
    else o
  else o

/-- The block after `k` trips from position `j`. -/
def oFrom : ℕ → ℕ → (S1024x1024.Idx → Elt F .f32) → (S1024x1024.Idx → Elt F .f32)
  | _, 0, o => o
  | j, k + 1, o => oFrom (j + 1) k (oStep i ids es e j o)

end Steps

/-! ## The loop's specification, met by its body -/

section Label

variable (c : Dev nD) (i : grid0.Coords) (ids : S256.Idx → BitVec 32) (es : S256.Idx → Elt F .f32) (e : S256x1024.Idx → Elt F .f32)
variable (arg1 : Memref sig .tc .smem S256 .i32) (harg1 : arg1.IsWhole) (arg8 : Memref sig .tc .vmem S1024x1024 .f32) (harg8 : arg8.IsWhole)
  (arg11 : Memref sig .tc .vmem S256x1024 .f32) (harg11 : arg11.IsWhole) (arg2 : Memref sig .tc .smem S256 .f32) (harg2 : arg2.IsWhole)
variable (q1 q2 : PosShare TreeShare)

/-- What the loop reads and writes: the ids, the scales and the embedding rows at their contents, the block at `o`. -/
def held (o : S1024x1024.Idx → Elt F .f32) : sProp 𝕄 :=
  iprop(owns (Val := Elt F) (c : Thread nD τ) arg1 q1 ids ∗ owns (Val := Elt F) (c : Thread nD τ) arg2 q2 es
    ∗ owns (Val := Elt F) (c : Thread nD τ) arg11 fullShare e ∗ owns (Val := Elt F) (c : Thread nD τ) arg8 fullShare o)

/-- With `k` trips to run from position `j`, the loop returns the position `j + k` and the block after those trips. -/
def spec (j k : ℕ) (o : S1024x1024.Idx → Elt F .f32) : sWPT 𝕄 (BitVec 32) := do
  sWPT.consume (held c ids es e arg1 arg8 arg11 arg2 q1 q2 o)
  sWPT.produce (held c ids es e arg1 arg8 arg11 arg2 q1 q2 (oFrom i ids es e j k o))
  pure (BitVec.ofNat 32 (j + k))

theorem spec_apply (j k : ℕ) (o : S1024x1024.Idx → Elt F .f32) (K : BitVec 32 → sProp 𝕄) :
    spec c i ids es e arg1 arg8 arg11 arg2 q1 q2 j k o K
      = iprop(held c ids es e arg1 arg8 arg11 arg2 q1 q2 o
        ∗ (held c ids es e arg1 arg8 arg11 arg2 q1 q2 (oFrom i ids es e j k o) -∗ K (BitVec.ofNat 32 (j + k)))) := rfl

/-- The before-region's test at position `p`: it passes exactly when `p` is a position of the list whose id is below the
    block's end. -/
theorem test_iff (ok : Ids.Ok ids) (p : ℕ) (hp : p ≤ 256) (inb : ∀ a, k0_off3 (BitVec.ofNat 32 p) a + S1.size a ≤ S256.size a) :
    (Scalar.andi (Scalar.cmpi .slt (BitVec.ofNat 32 p) 256#32)
      (Scalar.cmpi .slt (VecWindow.window (s := S256) ids (k0_off3 (BitVec.ofNat 32 p)) S1.size inb one)
        (Scalar.addi (Scalar.muli (BitVec.ofNat 32 (i 0).val) 1024#32) 1024#32)) = 1#1) ↔ p < Ids.cnt ids (base i + 1024) := by
  have hi := i_lt i
  have hm : min p 255 < 256 := by omega
  rw [window_at ids _ inb (min p 255) (off3_eq p hp) hm]
  have hn := ok.nonneg _ hm
  rw [Ids.idn_of_lt _ _ hm] at hn
  rw [slt_iff (by rw [BitVec.toNat_ofNat]; omega) (by decide), slt_iff hn (by rw [end_toNat]; unfold base; omega), end_toNat]
  show IntOp.andi _ _ = 1#1 ↔ _
  rw [andi_ofBool, ofBool_eq_one_iff, Bool.and_eq_true, decide_eq_true_eq, decide_eq_true_eq, BitVec.toNat_ofNat]
  rw [← Ids.idn_of_lt _ _ hm]
  constructor
  · rintro ⟨h1, h2⟩
    have hp' : p < 256 := by
      have : (256#32 : BitVec 32).toNat = 256 := rfl
      rw [this] at h1; omega
    rw [show min p 255 = p by omega] at h2
    exact (Ids.lt_cnt_iff ok hp').2 h2
  · intro h
    have hc := Ids.cnt_le ids (base i + 1024)
    refine ⟨?_, ?_⟩
    · show p % 2 ^ 32 < 256
      omega
    · rw [show min p 255 = p by omega]
      exact Ids.lt_of_lt_cnt h

theorem addi_succ (j : ℕ) : Scalar.addi (BitVec.ofNat 32 j) 1#32 = BitVec.ofNat 32 (j + 1) := by
  show BitVec.ofNat 32 j + 1#32 = _
  rw [BitVec.ofNat_add]

/-- The loop's body meets the specification, by induction on the trips still to run. -/
theorem spec_le (ok : Ids.Ok ids) (E : Set ℕ) :
    ∀ k j, j + k = Ids.cnt ids (base i + 1024) → Ids.cnt ids (base i) ≤ j → ∀ o K, spec c i ids es e arg1 arg8 arg11 arg2 q1 q2 j k o K
      ⊢ wp frame (wpE (defs₀ (F := F)) 𝒱₀ (c : Thread nD τ) (some k)) E
          (defs₀ (F := F) .tc 1 ⟨i, arg1, harg1, arg8, harg8, arg11, harg11, arg2, harg2, BitVec.ofNat 32 j⟩) K := by
  have hc := Ids.cnt_le ids (base i + 1024)
  intro k
  induction k with
  | zero =>
    intro j hj hb o K
    rw [spec_apply]
    show _ ⊢ wp frame (wpE (defs₀ (F := F)) 𝒱₀ (c : Thread nD τ) (some 0)) E
      (cc0_while1 i arg1 harg1 arg8 harg8 arg11 harg11 arg2 harg2 (BitVec.ofNat 32 j)) K
    simp only [cc0_while1_eq_skeleton]; unfold cc0_while1_skel
    have h1 : k0_chk1 (BitVec.ofNat 32 j) := chk1_ok j (by omega)
    simp only [smemLoad, smemLoadElt, Prog.lift, Prog.bind_op, Prog.bind_ret, Prog.pure_eq_ret]
    unfold held
    iintro ⟨⟨Hi, Hs, He, Ho⟩, Hk⟩
    iapply (wp_assume 𝒱₀ (c : Thread nD τ) (some 0) E h1)
    iapply (Owned.load 𝒱₀ (c : Thread nD τ) (some 0) E (m := arg1)) $$ Hi; iintro Hi
    rw [if_neg (by
      have := test_iff i ids ok j (by omega) h1
      intro h; have := this.1 h; omega)]
    rw [wp_ret]; imodintro
    iapply Hk
    simp only [oFrom]
    isplitl [Hi]; · iexact Hi
    isplitl [Hs]; · iexact Hs
    isplitl [He]; · iexact He
    iexact Ho
  | succ k ih =>
    intro j hj hb o K
    rw [spec_apply]
    show _ ⊢ wp frame (wpE (defs₀ (F := F)) 𝒱₀ (c : Thread nD τ) (some (k + 1))) E
      (cc0_while1 i arg1 harg1 arg8 harg8 arg11 harg11 arg2 harg2 (BitVec.ofNat 32 j)) K
    simp only [cc0_while1_eq_skeleton]; unfold cc0_while1_skel
    have hj' : j < 256 := by omega
    have h1 : k0_chk1 (BitVec.ofNat 32 j) := chk1_ok j (by omega)
    have h2 : k0_chk2 (BitVec.ofNat 32 j) := chk2_ok j hj'
    have h3 : k0_chk3 i (VecWindow.window (s := S256) ids (k0_off4 (BitVec.ofNat 32 j)) S1.size h2.1 one) := by
      rw [window_at ids _ h2.1 j (off4_eq j hj'.le) hj']
      have hlo := Ids.le_of_cnt_le ok hb hj'
      have hhi := Ids.lt_of_lt_cnt (ids := ids) (b := base i + 1024) (q := j) (by omega)
      rw [Ids.idn_of_lt _ _ hj'] at hlo hhi
      exact chk3_ok i _ hlo hhi
    simp only [smemLoad, smemLoadElt, Prog.lift, Prog.bind_op, Prog.bind_ret, Prog.pure_eq_ret]
    unfold held
    iintro ⟨⟨Hi, Hs, He, Ho⟩, Hk⟩
    iapply (wp_assume 𝒱₀ (c : Thread nD τ) (some (k + 1)) E h1)
    iapply (Owned.load 𝒱₀ (c : Thread nD τ) (some (k + 1)) E (m := arg1)) $$ Hi; iintro Hi
    rw [if_pos ((test_iff i ids ok j (by omega) h1).2 (by omega))]
    iapply (wp_assume 𝒱₀ (c : Thread nD τ) (some (k + 1)) E h2)
    iapply (Owned.load 𝒱₀ (c : Thread nD τ) (some (k + 1)) E (m := arg1)) $$ Hi; iintro Hi
    iapply (wp_assume 𝒱₀ (c : Thread nD τ) (some (k + 1)) E h3)
    iapply (Owned.load 𝒱₀ (c : Thread nD τ) (some (k + 1)) E (m := arg8)) $$ Ho; iintro Ho
    iapply (Owned.load 𝒱₀ (c : Thread nD τ) (some (k + 1)) E (m := arg11)) $$ He; iintro He
    iapply (Owned.load 𝒱₀ (c : Thread nD τ) (some (k + 1)) E (m := arg2)) $$ Hs; iintro Hs
    iapply (Owned.load 𝒱₀ (c : Thread nD τ) (some (k + 1)) E (m := arg8)) $$ Ho; iintro Ho
    iapply (Owned.store 𝒱₀ (c : Thread nD τ) (some (k + 1)) E (m := arg8)) $$ Ho; iintro Ho
    rw [addi_succ j]
    iapply (wp_call_spec 𝒱₀ (c : Thread nD τ) (some (k + 1)) E (spec c i ids es e arg1 arg8 arg11 arg2 q1 q2 (j + 1) k (oStep i ids es e j o)) k
      (fun u hu => by cases hu; exact Nat.lt_succ_self k)
      (ih (j + 1) (by omega) (by omega) (oStep i ids es e j o)))
    rw [spec_apply]; unfold held
    isplitl [Hi Hs He Ho]
    · isplitl [Hi]; · iexact Hi
      isplitl [Hs]; · iexact Hs
      isplitl [He]; · iexact He
      unfold oStep
      rw [dif_pos h2, dif_pos h3]
      iexact Ho
    iintro ⟨Hi, Hs, He, Ho⟩
    rw [wp_ret]; imodintro
    rw [show j + 1 + k = j + (k + 1) by omega]
    iapply Hk
    simp only [oFrom]
    isplitl [Hi]; · iexact Hi
    isplitl [Hs]; · iexact Hs
    isplitl [He]; · iexact He
    iexact Ho

end Label

end Cert.Proof.KI

end
-- ==== Proof.KI.Body.lean ====
/-
  The kernel's body. At the first grid point it fills its scratch buffers: the rescaled hidden states, the transposed
  scales, the embedding rows widened, and the position of the loop; at every point it multiplies the block of the
  gradient by the hidden states tile by tile, runs the loop over the ids and keeps the loop's position. Each of the
  printed parts of the body is met by what it reads and writes, and the body by their sequence.
-/
module

public import proofs.«01_k».proof.Proof.KI.Loop

@[expose] public section

noncomputable section

namespace Cert.Proof.KI

open Cert.KernelIdeal Cert.KernelIdeal.Gen Cert.Proof

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.WordArith

variable {F : FTy → Type} [FloatOps F]

local notation "𝕄" => MT nD τ sig Unit (Elt F) ℕ (UR nD τ) ℕ

/-! ## What the parts leave in the buffers -/

/-- The hidden-state scratch after the first part. -/
def hx1 (xs : S2x128.Idx → Elt F .f32) (xc : S2x128x1024.Idx → Elt F .fp8e4m3) (hx : S256x1024.Idx → Elt F .bf16) : S256x1024.Idx → Elt F .bf16 :=
  (VecWindow.put (VecWindow.put (VecWindow.put hx ![0, 0] S128x128.size
    (k0_pay5 (VecWindow.window (s := S2x128) xs ![0, 0] S1x128.size inb_S2x128_S1x128_0_0) (VecWindow.window (s := S2x128x1024) xc ![0, 0, 0] S1x128x128.size inb_S2x128x1024_S1x128x128_0_0_0))) ![0, 128] S128x128.size
    (k0_pay6 (VecWindow.window (s := S2x128) xs ![0, 0] S1x128.size inb_S2x128_S1x128_0_0) (VecWindow.window (s := S2x128x1024) xc ![0, 0, 128] S1x128x128.size inb_S2x128x1024_S1x128x128_0_0_128))) ![0, 256] S128x128.size
    (k0_pay7 (VecWindow.window (s := S2x128) xs ![0, 0] S1x128.size inb_S2x128_S1x128_0_0) (VecWindow.window (s := S2x128x1024) xc ![0, 0, 256] S1x128x128.size inb_S2x128x1024_S1x128x128_0_0_256)))

/-- The hidden-state scratch after the second part. -/
def hx2 (v218 : FVec F S128x128 .bf16) (xc : S2x128x1024.Idx → Elt F .fp8e4m3) (hx : S256x1024.Idx → Elt F .bf16) : S256x1024.Idx → Elt F .bf16 :=
  (VecWindow.put (VecWindow.put (VecWindow.put (VecWindow.put hx ![0, 384] S128x128.size
    (k0_pay8 v218 (VecWindow.window (s := S2x128x1024) xc ![0, 0, 384] S1x128x128.size inb_S2x128x1024_S1x128x128_0_0_384))) ![0, 512] S128x128.size
    (k0_pay9 v218 (VecWindow.window (s := S2x128x1024) xc ![0, 0, 512] S1x128x128.size inb_S2x128x1024_S1x128x128_0_0_512))) ![0, 640] S128x128.size
    (k0_pay10 v218 (VecWindow.window (s := S2x128x1024) xc ![0, 0, 640] S1x128x128.size inb_S2x128x1024_S1x128x128_0_0_640))) ![0, 768] S128x128.size
    (k0_pay11 v218 (VecWindow.window (s := S2x128x1024) xc ![0, 0, 768] S1x128x128.size inb_S2x128x1024_S1x128x128_0_0_768)))

/-- The hidden-state scratch after the third part. -/
def hx3 (v271 : FVec F S128x128 .bf16) (xs : S2x128.Idx → Elt F .f32) (xc : S2x128x1024.Idx → Elt F .fp8e4m3) (hx : S256x1024.Idx → Elt F .bf16) : S256x1024.Idx → Elt F .bf16 :=
  (VecWindow.put (VecWindow.put (VecWindow.put hx ![0, 896] S128x128.size
    (k0_pay13 v271)) ![128, 0] S128x128.size
    (k0_pay16 (VecWindow.window (s := S2x128) xs ![1, 0] S1x128.size inb_S2x128_S1x128_1_0) (VecWindow.window (s := S2x128x1024) xc ![1, 0, 0] S1x128x128.size inb_S2x128x1024_S1x128x128_1_0_0))) ![128, 128] S128x128.size
    (k0_pay17 (VecWindow.window (s := S2x128) xs ![1, 0] S1x128.size inb_S2x128_S1x128_1_0) (VecWindow.window (s := S2x128x1024) xc ![1, 0, 128] S1x128x128.size inb_S2x128x1024_S1x128x128_1_0_128)))

/-- The hidden-state scratch after the fourth part. -/
def hx4 (v285 v303 : FVec F S128x128 .bf16) (xc : S2x128x1024.Idx → Elt F .fp8e4m3) (hx : S256x1024.Idx → Elt F .bf16) : S256x1024.Idx → Elt F .bf16 :=
  (VecWindow.put (VecWindow.put (VecWindow.put (VecWindow.put (VecWindow.put hx ![128, 256] S128x128.size
    (k0_pay19 v303)) ![128, 384] S128x128.size
    (k0_pay20 v285 (VecWindow.window (s := S2x128x1024) xc ![1, 0, 384] S1x128x128.size inb_S2x128x1024_S1x128x128_1_0_384))) ![128, 512] S128x128.size
    (k0_pay21 v285 (VecWindow.window (s := S2x128x1024) xc ![1, 0, 512] S1x128x128.size inb_S2x128x1024_S1x128x128_1_0_512))) ![128, 640] S128x128.size
    (k0_pay22 v285 (VecWindow.window (s := S2x128x1024) xc ![1, 0, 640] S1x128x128.size inb_S2x128x1024_S1x128x128_1_0_640))) ![128, 768] S128x128.size
    (k0_pay23 v285 (VecWindow.window (s := S2x128x1024) xc ![1, 0, 768] S1x128x128.size inb_S2x128x1024_S1x128x128_1_0_768)))

/-- The hidden-state scratch filled: every tile the rescaled hidden states. -/
def hxFill (xs : S2x128.Idx → Elt F .f32) (xc : S2x128x1024.Idx → Elt F .fp8e4m3) (hx : S256x1024.Idx → Elt F .bf16) : S256x1024.Idx → Elt F .bf16 :=
  VecWindow.put (hx4 (k0_pay15 (VecWindow.window (s := S2x128) xs ![1, 0] S1x128.size inb_S2x128_S1x128_1_0))
    (k0_pay18 (VecWindow.window (s := S2x128) xs ![1, 0] S1x128.size inb_S2x128_S1x128_1_0) (VecWindow.window (s := S2x128x1024) xc ![1, 0, 256] S1x128x128.size inb_S2x128x1024_S1x128x128_1_0_256)) xc
    (hx3 (k0_pay12 (k0_pay4 (VecWindow.window (s := S2x128) xs ![0, 0] S1x128.size inb_S2x128_S1x128_0_0)) (VecWindow.window (s := S2x128x1024) xc ![0, 0, 896] S1x128x128.size inb_S2x128x1024_S1x128x128_0_0_896)) xs xc
    (hx2 (k0_pay4 (VecWindow.window (s := S2x128) xs ![0, 0] S1x128.size inb_S2x128_S1x128_0_0)) xc (hx1 xs xc hx)))) ![128, 896] S128x128.size
    (k0_pay25 (k0_pay15 (VecWindow.window (s := S2x128) xs ![1, 0] S1x128.size inb_S2x128_S1x128_1_0)) (k0_pay24 (VecWindow.window (s := S2x128x1024) xc ![1, 0, 896] S1x128x128.size inb_S2x128x1024_S1x128x128_1_0_896)))

/-- The scale scratch filled: the two batches' scales side by side, transposed. -/
def scFill (dls : S2x128x16.Idx → Elt F .f32) (sc : S16x256.Idx → Elt F .f32) : S16x256.Idx → Elt F .f32 :=
  VecWindow.put (VecWindow.put sc ![0, 0] S16x128.size (k0_pay14 (VecWindow.window (s := S2x128x16) dls ![0, 0, 0] S1x128x16.size inb_S2x128x16_S1x128x16_0_0_0))) ![0, 128] S16x128.size
    (k0_pay26 (VecWindow.window (s := S2x128x16) dls ![1, 0, 0] S1x128x16.size inb_S2x128x16_S1x128x16_1_0_0))

/-- The embedding scratch filled: the embedding rows widened. -/
def eFill (ec : S256x1024.Idx → Elt F .fp8e5m2) (e : S256x1024.Idx → Elt F .f32) : S256x1024.Idx → Elt F .f32 :=
  VecWindow.put e ![0, 0] S256x1024.size (k0_pay3 (VecWindow.window (s := S256x1024) ec ![0, 0] S256x1024.size inb_S256x1024_S256x1024_0_0))

/-- Whether the grid point is the first, as the body tests it. -/
def firstBit (i : grid0.Coords) : BitVec 1 := Scalar.cmpi .ne (Scalar.extui (Scalar.cmpi .eq (BitVec.ofNat 32 (i 0).val) 0#32) : BitVec 32) 0#32

/-- The scratch buffers as the rest of the body finds them: filled at the first point, as they were at any other. -/
def hxAt (i : grid0.Coords) (xs : S2x128.Idx → Elt F .f32) (xc : S2x128x1024.Idx → Elt F .fp8e4m3) (hx : S256x1024.Idx → Elt F .bf16) : S256x1024.Idx → Elt F .bf16 := if firstBit i = 1#1 then hxFill xs xc hx else hx
def scAt (i : grid0.Coords) (dls : S2x128x16.Idx → Elt F .f32) (sc : S16x256.Idx → Elt F .f32) : S16x256.Idx → Elt F .f32 := if firstBit i = 1#1 then scFill dls sc else sc
def eAt (i : grid0.Coords) (ec : S256x1024.Idx → Elt F .fp8e5m2) (e : S256x1024.Idx → Elt F .f32) : S256x1024.Idx → Elt F .f32 := if firstBit i = 1#1 then eFill ec e else e
def pAt (i : grid0.Coords) (p : S1.Idx → Elt F .i32) : S1.Idx → Elt F .i32 := if firstBit i = 1#1 then (fun _ => 0#32) else p

/-- The scalar words the sixth part computes. -/
def words6 (arg0 : BitVec 32) : Σ' (v54 : BitVec 32) (v72 : BitVec 32) (v74 : BitVec 32), BitVec 32 :=
  let v53 : BitVec 32 := Scalar.muli arg0 1024#32
  let v54 : BitVec 32 := Scalar.addi v53 256#32
  let v55 : BitVec 32 := Scalar.divsi v54 9496#32
  let v56 : BitVec 1 := Scalar.cmpi .sgt v54 0#32
  let v57 : BitVec 32 := Scalar.extui v56
  let v58 : BitVec 1 := Scalar.cmpi .slt v54 0#32
  let v59 : BitVec 32 := Scalar.extui v58
  let v60 : BitVec 32 := Scalar.subi v57 v59
  let v61 : BitVec 1 := Scalar.cmpi .sgt 9496#32 0#32
  let v62 : BitVec 32 := Scalar.extui v61
  let v63 : BitVec 1 := Scalar.cmpi .slt 9496#32 0#32
  let v64 : BitVec 32 := Scalar.extui v63
  let v65 : BitVec 32 := Scalar.subi v62 v64
  let v66 : BitVec 1 := Scalar.cmpi .ne v60 v65
  let v67 : BitVec 32 := Scalar.remsi v54 9496#32
  let v68 : BitVec 1 := Scalar.cmpi .ne v67 0#32
  let v69 : BitVec 1 := Scalar.andi v66 v68
  let v70 : BitVec 32 := Scalar.subi v55 1#32
  let v71 : BitVec 32 := Scalar.select v69 v70 v55
  let v72 : BitVec 32 := Scalar.minsi v71 15#32
  let v73 : BitVec 32 := Scalar.addi v72 1#32
  let v74 : BitVec 32 := Scalar.minsi v73 15#32
  ⟨v54, v72, v74, 1#32⟩

/-- The scalar words the seventh part computes. -/
def words7 (arg0 : BitVec 32) : Σ' (v104 : BitVec 32) (c9496_i32_47 : BitVec 32) (v105 : BitVec 32) (v110 : BitVec 32) (v112 : BitVec 32), BitVec 32 :=
  let v103 : BitVec 32 := Scalar.muli arg0 1024#32
  let v104 : BitVec 32 := Scalar.addi v103 512#32
  let v105 : BitVec 32 := Scalar.divsi v104 9496#32
  let v106 : BitVec 1 := Scalar.cmpi .sgt v104 0#32
  let v107 : BitVec 32 := Scalar.extui v106
  let v108 : BitVec 1 := Scalar.cmpi .slt v104 0#32
  let v109 : BitVec 32 := Scalar.extui v108
  let v110 : BitVec 32 := Scalar.subi v107 v109
  let v111 : BitVec 1 := Scalar.cmpi .sgt 9496#32 0#32
  let v112 : BitVec 32 := Scalar.extui v111
  ⟨v104, 9496#32, v105, v110, v112, 0#32⟩

/-- The first 256 rows of the block before the loop. -/
def tile0 (i : grid0.Coords) (dl : S2x128x1024.Idx → Elt F .fp8e5m2) (hx : S256x1024.Idx → Elt F .bf16) (sc : S16x256.Idx → Elt F .f32) : FVec F S256x1024 .f32 :=
  k0_pay28 (k0_pay27 i (VecWindow.window (s := S16x256) sc (k0_off1 i 0#32) S1x256.size (k0_off1_inb i 0)) (VecWindow.window (s := S16x256) sc (k0_off2 i 0#32) S1x256.size (k0_off2_inb i 0))) (VecWindow.window (s := S2x128x1024) dl ![0, 0, 0] S1x128x256.size inb_S2x128x1024_S1x128x256_0_0_0) (VecWindow.window (s := S2x128x1024) dl ![1, 0, 0] S1x128x256.size inb_S2x128x1024_S1x128x256_1_0_0) (VecWindow.window (s := S256x1024) hx ![0, 0] S256x1024.size inb_S256x1024_S256x1024_0_0)

/-- The second 256 rows. -/
def tile1 (i : grid0.Coords) (dl : S2x128x1024.Idx → Elt F .fp8e5m2) (hx : S256x1024.Idx → Elt F .bf16) (sc : S16x256.Idx → Elt F .f32) : FVec F S256x1024 .f32 :=
  k0_pay29 (words6 (BitVec.ofNat 32 (i 0).val)).1 (words6 (BitVec.ofNat 32 (i 0).val)).2.1 (words6 (BitVec.ofNat 32 (i 0).val)).2.2.2 (VecWindow.window (s := S16x256) sc (k0_off1 i 256#32) S1x256.size (k0_off1_inb i 1)) (VecWindow.window (s := S16x256) sc (k0_off2 i 256#32) S1x256.size (k0_off2_inb i 1)) (VecWindow.window (s := S2x128x1024) dl ![0, 0, 256] S1x128x256.size inb_S2x128x1024_S1x128x256_0_0_256) (VecWindow.window (s := S2x128x1024) dl ![1, 0, 256] S1x128x256.size inb_S2x128x1024_S1x128x256_1_0_256) (VecWindow.window (s := S256x1024) hx ![0, 0] S256x1024.size inb_S256x1024_S256x1024_0_0)

/-- The third 256 rows. -/
def tile2 (i : grid0.Coords) (dl : S2x128x1024.Idx → Elt F .fp8e5m2) (hx : S256x1024.Idx → Elt F .bf16) (sc : S16x256.Idx → Elt F .f32) : FVec F S256x1024 .f32 :=
  k0_pay30 (words7 (BitVec.ofNat 32 (i 0).val)).1 (words7 (BitVec.ofNat 32 (i 0).val)).2.1 (words7 (BitVec.ofNat 32 (i 0).val)).2.2.1 (words7 (BitVec.ofNat 32 (i 0).val)).2.2.2.1 (words7 (BitVec.ofNat 32 (i 0).val)).2.2.2.2.1 (words7 (BitVec.ofNat 32 (i 0).val)).2.2.2.2.2 (VecWindow.window (s := S16x256) sc (k0_off1 i 512#32) S1x256.size (k0_off1_inb i 2)) (VecWindow.window (s := S16x256) sc (k0_off2 i 512#32) S1x256.size (k0_off2_inb i 2)) (VecWindow.window (s := S2x128x1024) dl ![0, 0, 512] S1x128x256.size inb_S2x128x1024_S1x128x256_0_0_512) (VecWindow.window (s := S2x128x1024) dl ![1, 0, 512] S1x128x256.size inb_S2x128x1024_S1x128x256_1_0_512) (VecWindow.window (s := S256x1024) hx ![0, 0] S256x1024.size inb_S256x1024_S256x1024_0_0)

/-- The fourth 256 rows. -/
def tile3 (i : grid0.Coords) (dl : S2x128x1024.Idx → Elt F .fp8e5m2) (hx : S256x1024.Idx → Elt F .bf16) (sc : S16x256.Idx → Elt F .f32) : FVec F S256x1024 .f32 :=
  k0_pay1 (k0_pay31 (BitVec.ofNat 32 (i 0).val) (VecWindow.window (s := S16x256) sc (k0_off1 i 768#32) S1x256.size (k0_off1_inb i 3)) (VecWindow.window (s := S16x256) sc (k0_off2 i 768#32) S1x256.size (k0_off2_inb i 3))) (k0_pay32 (VecWindow.window (s := S2x128x1024) dl ![0, 0, 768] S1x128x256.size inb_S2x128x1024_S1x128x256_0_0_768)) (VecWindow.window (s := S2x128x1024) dl ![1, 0, 768] S1x128x256.size inb_S2x128x1024_S1x128x256_1_0_768) (VecWindow.window (s := S256x1024) hx ![0, 0] S256x1024.size inb_S256x1024_S256x1024_0_0)

/-- The block before the loop: its four tiles. -/
def tiles (i : grid0.Coords) (dl : S2x128x1024.Idx → Elt F .fp8e5m2) (hx : S256x1024.Idx → Elt F .bf16) (sc : S16x256.Idx → Elt F .f32) (o : S1024x1024.Idx → Elt F .f32) : S1024x1024.Idx → Elt F .f32 :=
  VecWindow.put (VecWindow.put (VecWindow.put (VecWindow.put o ![0, 0] S256x1024.size (tile0 i dl hx sc)) ![256, 0] S256x1024.size (tile1 i dl hx sc))
    ![512, 0] S256x1024.size (tile2 i dl hx sc)) ![768, 0] S256x1024.size (tile3 i dl hx sc)

/-- The block after the body: the tiles, then the loop's trips over the ids that fall in the block. -/
def blk (i : grid0.Coords) (ids : S256.Idx → Elt F .i32) (es : S256.Idx → Elt F .f32) (dl : S2x128x1024.Idx → Elt F .fp8e5m2) (hx : S256x1024.Idx → Elt F .bf16) (sc : S16x256.Idx → Elt F .f32) (e : S256x1024.Idx → Elt F .f32) (o : S1024x1024.Idx → Elt F .f32) : S1024x1024.Idx → Elt F .f32 :=
  oFrom i ids es e (Ids.cnt ids (base i)) (Ids.cnt ids (base i + 1024) - Ids.cnt ids (base i)) (tiles i dl hx sc o)

/-- The word the loop's position is kept as. -/
def ptr (n : ℕ) : S1.Idx → Elt F .i32 := fun _ => BitVec.ofNat 32 n

theorem put_one (x w : S1.Idx → Elt F .i32) : VecWindow.put x ![0] S1.size w = w := by
  funext y
  have hy : (y 0).val = 0 := by have : (y 0).val < 1 := (y 0).isLt; omega
  unfold VecWindow.put
  rw [dif_pos (fun a => by fin_cases a; show 0 ≤ (y 0).val ∧ (y 0).val < 0 + 1; omega)]
  refine congrArg w (funext fun a => Fin.ext ?_)
  fin_cases a
  show (y 0).val - 0 = (y 0).val
  omega

/-! ## The parts -/

section Parts

variable (c : Dev nD) (E : Set ℕ) (i : grid0.Coords) (arg1 : Memref sig .tc .smem S256 .i32) (harg1 : arg1.IsWhole) (arg2 : Memref sig .tc .smem S256 .f32) (harg2 : arg2.IsWhole) (arg3 : Memref sig .tc .vmem S2x128x1024 .fp8e5m2) (harg3 : arg3.IsWhole) (arg4 : Memref sig .tc .vmem S2x128x16 .f32) (harg4 : arg4.IsWhole) (arg5 : Memref sig .tc .vmem S2x128x1024 .fp8e4m3) (harg5 : arg5.IsWhole) (arg6 : Memref sig .tc .vmem S2x128 .f32) (harg6 : arg6.IsWhole) (arg7 : Memref sig .tc .vmem S256x1024 .fp8e5m2) (harg7 : arg7.IsWhole) (arg8 : Memref sig .tc .vmem S1024x1024 .f32) (harg8 : arg8.IsWhole) (arg9 : Memref sig .tc .vmem S256x1024 .bf16) (harg9 : arg9.IsWhole) (arg10 : Memref sig .tc .vmem S16x256 .f32) (harg10 : arg10.IsWhole) (arg11 : Memref sig .tc .vmem S256x1024 .f32) (harg11 : arg11.IsWhole) (arg12 : Memref sig .tc .smem S1 .i32) (harg12 : arg12.IsWhole)

/-- Part 1 of the body, met by what it reads and writes. -/
theorem part1_spec  (p : S1.Idx → Elt F .i32) (ec : S256x1024.Idx → Elt F .fp8e5m2) (e : S256x1024.Idx → Elt F .f32) (xs : S2x128.Idx → Elt F .f32) (xc : S2x128x1024.Idx → Elt F .fp8e4m3) (hx : S256x1024.Idx → Elt F .bf16) (K : FVec F S128x128 .bf16 → sProp 𝕄) :
    iprop((owns (Val := Elt F) (c : Thread nD τ) arg12 fullShare p ∗ owns (Val := Elt F) (c : Thread nD τ) arg7 fullShare ec ∗ owns (Val := Elt F) (c : Thread nD τ) arg11 fullShare e ∗ owns (Val := Elt F) (c : Thread nD τ) arg6 fullShare xs ∗ owns (Val := Elt F) (c : Thread nD τ) arg5 fullShare xc ∗ owns (Val := Elt F) (c : Thread nD τ) arg9 fullShare hx) ∗ ((owns (Val := Elt F) (c : Thread nD τ) arg12 fullShare (VecWindow.put p ![0] S1.size (fun _ => 0#32)) ∗ owns (Val := Elt F) (c : Thread nD τ) arg7 fullShare ec ∗ owns (Val := Elt F) (c : Thread nD τ) arg11 fullShare (eFill ec e) ∗ owns (Val := Elt F) (c : Thread nD τ) arg6 fullShare xs ∗ owns (Val := Elt F) (c : Thread nD τ) arg5 fullShare xc ∗ owns (Val := Elt F) (c : Thread nD τ) arg9 fullShare (hx1 xs xc hx)) -∗ K (k0_pay4 (VecWindow.window (s := S2x128) xs ![0, 0] S1x128.size inb_S2x128_S1x128_0_0))))
      ⊢ wp frame (wpE (defs₀ (F := F)) 𝒱₀ (c : Thread nD τ) none) E (k0_part1 i arg1 harg1 arg2 harg2 arg3 harg3 arg4 harg4 arg5 harg5 arg6 harg6 arg7 harg7 arg8 harg8 arg9 harg9 arg10 harg10 arg11 harg11 arg12 harg12) K := by
  rw [k0_part1_eq_skeleton]; unfold k0_part1_skel
  simp only [smemLoad, smemLoadElt, Prog.lift, Prog.bind_op, Prog.bind_ret, Prog.pure_eq_ret]
  iintro ⟨⟨H12, H7, H11, H6, H5, H9⟩, Hk⟩
  iapply (Owned.load 𝒱₀ (c : Thread nD τ) none E (m := arg12)) $$ H12; iintro H12
  iapply (Owned.store 𝒱₀ (c : Thread nD τ) none E (m := arg12)) $$ H12; iintro H12
  iapply (Owned.load 𝒱₀ (c : Thread nD τ) none E (m := arg7)) $$ H7; iintro H7
  iapply (Owned.load 𝒱₀ (c : Thread nD τ) none E (m := arg11)) $$ H11; iintro H11
  iapply (Owned.store 𝒱₀ (c : Thread nD τ) none E (m := arg11)) $$ H11; iintro H11
  iapply (Owned.load 𝒱₀ (c : Thread nD τ) none E (m := arg6)) $$ H6; iintro H6
  iapply (Owned.load 𝒱₀ (c : Thread nD τ) none E (m := arg5)) $$ H5; iintro H5
  iapply (Owned.load 𝒱₀ (c : Thread nD τ) none E (m := arg9)) $$ H9; iintro H9
  iapply (Owned.store 𝒱₀ (c : Thread nD τ) none E (m := arg9)) $$ H9; iintro H9
  iapply (Owned.load 𝒱₀ (c : Thread nD τ) none E (m := arg5)) $$ H5; iintro H5
  iapply (Owned.load 𝒱₀ (c : Thread nD τ) none E (m := arg9)) $$ H9; iintro H9
  iapply (Owned.store 𝒱₀ (c : Thread nD τ) none E (m := arg9)) $$ H9; iintro H9
  iapply (Owned.load 𝒱₀ (c : Thread nD τ) none E (m := arg5)) $$ H5; iintro H5
  iapply (Owned.load 𝒱₀ (c : Thread nD τ) none E (m := arg9)) $$ H9; iintro H9
  iapply (Owned.store 𝒱₀ (c : Thread nD τ) none E (m := arg9)) $$ H9; iintro H9
  rw [wp_ret]; imodintro
  iapply Hk
  isplitl [H12]; · iexact H12
  isplitl [H7]; · iexact H7
  isplitl [H11]; · iexact H11
  isplitl [H6]; · iexact H6
  isplitl [H5]; · iexact H5
  iexact H9

/-- Part 2 of the body, met by what it reads and writes. -/
theorem part2_spec (v218 : FVec F S128x128 .bf16) (xc : S2x128x1024.Idx → Elt F .fp8e4m3) (hx : S256x1024.Idx → Elt F .bf16) (K : FVec F S128x128 .bf16 → sProp 𝕄) :
    iprop((owns (Val := Elt F) (c : Thread nD τ) arg5 fullShare xc ∗ owns (Val := Elt F) (c : Thread nD τ) arg9 fullShare hx) ∗ ((owns (Val := Elt F) (c : Thread nD τ) arg5 fullShare xc ∗ owns (Val := Elt F) (c : Thread nD τ) arg9 fullShare (hx2 v218 xc hx)) -∗ K (k0_pay12 v218 (VecWindow.window (s := S2x128x1024) xc ![0, 0, 896] S1x128x128.size inb_S2x128x1024_S1x128x128_0_0_896))))
      ⊢ wp frame (wpE (defs₀ (F := F)) 𝒱₀ (c : Thread nD τ) none) E (k0_part2 i arg1 harg1 arg2 harg2 arg3 harg3 arg4 harg4 arg5 harg5 arg6 harg6 arg7 harg7 arg8 harg8 arg9 harg9 arg10 harg10 arg11 harg11 arg12 harg12 v218) K := by
  rw [k0_part2_eq_skeleton]; unfold k0_part2_skel
  simp only [smemLoad, smemLoadElt, Prog.lift, Prog.bind_op, Prog.bind_ret, Prog.pure_eq_ret]
  iintro ⟨⟨H5, H9⟩, Hk⟩
  iapply (Owned.load 𝒱₀ (c : Thread nD τ) none E (m := arg5)) $$ H5; iintro H5
  iapply (Owned.load 𝒱₀ (c : Thread nD τ) none E (m := arg9)) $$ H9; iintro H9
  iapply (Owned.store 𝒱₀ (c : Thread nD τ) none E (m := arg9)) $$ H9; iintro H9
  iapply (Owned.load 𝒱₀ (c : Thread nD τ) none E (m := arg5)) $$ H5; iintro H5
  iapply (Owned.load 𝒱₀ (c : Thread nD τ) none E (m := arg9)) $$ H9; iintro H9
  iapply (Owned.store 𝒱₀ (c : Thread nD τ) none E (m := arg9)) $$ H9; iintro H9
  iapply (Owned.load 𝒱₀ (c : Thread nD τ) none E (m := arg5)) $$ H5; iintro H5
  iapply (Owned.load 𝒱₀ (c : Thread nD τ) none E (m := arg9)) $$ H9; iintro H9
  iapply (Owned.store 𝒱₀ (c : Thread nD τ) none E (m := arg9)) $$ H9; iintro H9
  iapply (Owned.load 𝒱₀ (c : Thread nD τ) none E (m := arg5)) $$ H5; iintro H5
  iapply (Owned.load 𝒱₀ (c : Thread nD τ) none E (m := arg9)) $$ H9; iintro H9
  iapply (Owned.store 𝒱₀ (c : Thread nD τ) none E (m := arg9)) $$ H9; iintro H9
  iapply (Owned.load 𝒱₀ (c : Thread nD τ) none E (m := arg5)) $$ H5; iintro H5
  rw [wp_ret]; imodintro
  iapply Hk
  isplitl [H5]; · iexact H5
  iexact H9

/-- Part 3 of the body, met by what it reads and writes. -/
theorem part3_spec (v271 : FVec F S128x128 .bf16) (hx : S256x1024.Idx → Elt F .bf16) (dls : S2x128x16.Idx → Elt F .f32) (sc : S16x256.Idx → Elt F .f32) (xs : S2x128.Idx → Elt F .f32) (xc : S2x128x1024.Idx → Elt F .fp8e4m3) (K : (Σ' (v285 : FVec F S128x128 .bf16) (v303 : FVec F S128x128 .bf16), Vec F S128x128 .bf16) → sProp 𝕄) :
    iprop((owns (Val := Elt F) (c : Thread nD τ) arg9 fullShare hx ∗ owns (Val := Elt F) (c : Thread nD τ) arg4 fullShare dls ∗ owns (Val := Elt F) (c : Thread nD τ) arg10 fullShare sc ∗ owns (Val := Elt F) (c : Thread nD τ) arg6 fullShare xs ∗ owns (Val := Elt F) (c : Thread nD τ) arg5 fullShare xc) ∗ ((owns (Val := Elt F) (c : Thread nD τ) arg9 fullShare (hx3 v271 xs xc hx) ∗ owns (Val := Elt F) (c : Thread nD τ) arg4 fullShare dls ∗ owns (Val := Elt F) (c : Thread nD τ) arg10 fullShare (VecWindow.put sc ![0, 0] S16x128.size (k0_pay14 (VecWindow.window (s := S2x128x16) dls ![0, 0, 0] S1x128x16.size inb_S2x128x16_S1x128x16_0_0_0))) ∗ owns (Val := Elt F) (c : Thread nD τ) arg6 fullShare xs ∗ owns (Val := Elt F) (c : Thread nD τ) arg5 fullShare xc) -∗ K ⟨(k0_pay15 (VecWindow.window (s := S2x128) xs ![1, 0] S1x128.size inb_S2x128_S1x128_1_0)), (k0_pay18 (VecWindow.window (s := S2x128) xs ![1, 0] S1x128.size inb_S2x128_S1x128_1_0) (VecWindow.window (s := S2x128x1024) xc ![1, 0, 256] S1x128x128.size inb_S2x128x1024_S1x128x128_1_0_256)), (VecWindow.window (s := S256x1024) (hx3 v271 xs xc hx) ![128, 256] S128x128.size inb_S256x1024_S128x128_128_256)⟩))
      ⊢ wp frame (wpE (defs₀ (F := F)) 𝒱₀ (c : Thread nD τ) none) E (k0_part3 i arg1 harg1 arg2 harg2 arg3 harg3 arg4 harg4 arg5 harg5 arg6 harg6 arg7 harg7 arg8 harg8 arg9 harg9 arg10 harg10 arg11 harg11 arg12 harg12 v271) K := by
  rw [k0_part3_eq_skeleton]; unfold k0_part3_skel
  simp only [smemLoad, smemLoadElt, Prog.lift, Prog.bind_op, Prog.bind_ret, Prog.pure_eq_ret]
  iintro ⟨⟨H9, H4, H10, H6, H5⟩, Hk⟩
  iapply (Owned.load 𝒱₀ (c : Thread nD τ) none E (m := arg9)) $$ H9; iintro H9
  iapply (Owned.store 𝒱₀ (c : Thread nD τ) none E (m := arg9)) $$ H9; iintro H9
  iapply (Owned.load 𝒱₀ (c : Thread nD τ) none E (m := arg4)) $$ H4; iintro H4
  iapply (Owned.load 𝒱₀ (c : Thread nD τ) none E (m := arg10)) $$ H10; iintro H10
  iapply (Owned.store 𝒱₀ (c : Thread nD τ) none E (m := arg10)) $$ H10; iintro H10
  iapply (Owned.load 𝒱₀ (c : Thread nD τ) none E (m := arg6)) $$ H6; iintro H6
  iapply (Owned.load 𝒱₀ (c : Thread nD τ) none E (m := arg5)) $$ H5; iintro H5
  iapply (Owned.load 𝒱₀ (c : Thread nD τ) none E (m := arg9)) $$ H9; iintro H9
  iapply (Owned.store 𝒱₀ (c : Thread nD τ) none E (m := arg9)) $$ H9; iintro H9
  iapply (Owned.load 𝒱₀ (c : Thread nD τ) none E (m := arg5)) $$ H5; iintro H5
  iapply (Owned.load 𝒱₀ (c : Thread nD τ) none E (m := arg9)) $$ H9; iintro H9
  iapply (Owned.store 𝒱₀ (c : Thread nD τ) none E (m := arg9)) $$ H9; iintro H9
  iapply (Owned.load 𝒱₀ (c : Thread nD τ) none E (m := arg5)) $$ H5; iintro H5
  iapply (Owned.load 𝒱₀ (c : Thread nD τ) none E (m := arg9)) $$ H9; iintro H9
  rw [wp_ret]; imodintro
  simp only [hx3]
  iapply Hk
  isplitl [H9]; · iexact H9
  isplitl [H4]; · iexact H4
  isplitl [H10]; · iexact H10
  isplitl [H6]; · iexact H6
  iexact H5

/-- Part 4 of the body, met by what it reads and writes. -/
theorem part4_spec (v285 : FVec F S128x128 .bf16) (v303 : FVec F S128x128 .bf16) (v304 : Vec F S128x128 .bf16) (hx : S256x1024.Idx → Elt F .bf16) (xc : S2x128x1024.Idx → Elt F .fp8e4m3) (K : FVec F S128x128 .fp8e4m3 → sProp 𝕄) :
    iprop((owns (Val := Elt F) (c : Thread nD τ) arg9 fullShare hx ∗ owns (Val := Elt F) (c : Thread nD τ) arg5 fullShare xc) ∗ ((owns (Val := Elt F) (c : Thread nD τ) arg9 fullShare (hx4 v285 v303 xc hx) ∗ owns (Val := Elt F) (c : Thread nD τ) arg5 fullShare xc) -∗ K (k0_pay24 (VecWindow.window (s := S2x128x1024) xc ![1, 0, 896] S1x128x128.size inb_S2x128x1024_S1x128x128_1_0_896))))
      ⊢ wp frame (wpE (defs₀ (F := F)) 𝒱₀ (c : Thread nD τ) none) E (k0_part4 i arg1 harg1 arg2 harg2 arg3 harg3 arg4 harg4 arg5 harg5 arg6 harg6 arg7 harg7 arg8 harg8 arg9 harg9 arg10 harg10 arg11 harg11 arg12 harg12 v285 v303 v304) K := by
  rw [k0_part4_eq_skeleton]; unfold k0_part4_skel
  simp only [smemLoad, smemLoadElt, Prog.lift, Prog.bind_op, Prog.bind_ret, Prog.pure_eq_ret]
  iintro ⟨⟨H9, H5⟩, Hk⟩
  iapply (Owned.store 𝒱₀ (c : Thread nD τ) none E (m := arg9)) $$ H9; iintro H9
  iapply (Owned.load 𝒱₀ (c : Thread nD τ) none E (m := arg5)) $$ H5; iintro H5
  iapply (Owned.load 𝒱₀ (c : Thread nD τ) none E (m := arg9)) $$ H9; iintro H9
  iapply (Owned.store 𝒱₀ (c : Thread nD τ) none E (m := arg9)) $$ H9; iintro H9
  iapply (Owned.load 𝒱₀ (c : Thread nD τ) none E (m := arg5)) $$ H5; iintro H5
  iapply (Owned.load 𝒱₀ (c : Thread nD τ) none E (m := arg9)) $$ H9; iintro H9
  iapply (Owned.store 𝒱₀ (c : Thread nD τ) none E (m := arg9)) $$ H9; iintro H9
  iapply (Owned.load 𝒱₀ (c : Thread nD τ) none E (m := arg5)) $$ H5; iintro H5
  iapply (Owned.load 𝒱₀ (c : Thread nD τ) none E (m := arg9)) $$ H9; iintro H9
  iapply (Owned.store 𝒱₀ (c : Thread nD τ) none E (m := arg9)) $$ H9; iintro H9
  iapply (Owned.load 𝒱₀ (c : Thread nD τ) none E (m := arg5)) $$ H5; iintro H5
  iapply (Owned.load 𝒱₀ (c : Thread nD τ) none E (m := arg9)) $$ H9; iintro H9
  iapply (Owned.store 𝒱₀ (c : Thread nD τ) none E (m := arg9)) $$ H9; iintro H9
  iapply (Owned.load 𝒱₀ (c : Thread nD τ) none E (m := arg5)) $$ H5; iintro H5
  rw [wp_ret]; imodintro
  iapply Hk
  isplitl [H9]; · iexact H9
  iexact H5

/-- The block before its branch and the scale rows after it. -/
theorem part5_spec (p : S1.Idx → Elt F .i32) (ec : S256x1024.Idx → Elt F .fp8e5m2) (e : S256x1024.Idx → Elt F .f32) (xs : S2x128.Idx → Elt F .f32) (xc : S2x128x1024.Idx → Elt F .fp8e4m3) (hx : S256x1024.Idx → Elt F .bf16) (dls : S2x128x16.Idx → Elt F .f32) (sc : S16x256.Idx → Elt F .f32) (K : (Σ' (arg0 : BitVec 32), FVec F S256x256 .f32) → sProp 𝕄) :
    iprop((owns (Val := Elt F) (c : Thread nD τ) arg12 fullShare p ∗ owns (Val := Elt F) (c : Thread nD τ) arg7 fullShare ec ∗ owns (Val := Elt F) (c : Thread nD τ) arg11 fullShare e ∗ owns (Val := Elt F) (c : Thread nD τ) arg6 fullShare xs ∗ owns (Val := Elt F) (c : Thread nD τ) arg5 fullShare xc ∗ owns (Val := Elt F) (c : Thread nD τ) arg9 fullShare hx ∗ owns (Val := Elt F) (c : Thread nD τ) arg4 fullShare dls ∗ owns (Val := Elt F) (c : Thread nD τ) arg10 fullShare sc) ∗ ((owns (Val := Elt F) (c : Thread nD τ) arg12 fullShare (pAt i p) ∗ owns (Val := Elt F) (c : Thread nD τ) arg7 fullShare ec ∗ owns (Val := Elt F) (c : Thread nD τ) arg11 fullShare (eAt i ec e) ∗ owns (Val := Elt F) (c : Thread nD τ) arg6 fullShare xs ∗ owns (Val := Elt F) (c : Thread nD τ) arg5 fullShare xc ∗ owns (Val := Elt F) (c : Thread nD τ) arg9 fullShare (hxAt i xs xc hx) ∗ owns (Val := Elt F) (c : Thread nD τ) arg4 fullShare dls ∗ owns (Val := Elt F) (c : Thread nD τ) arg10 fullShare (scAt i dls sc)) -∗ K ⟨(BitVec.ofNat 32 (i 0).val), k0_pay27 i (VecWindow.window (s := S16x256) (scAt i dls sc) (k0_off1 i 0#32) S1x256.size (k0_off1_inb i 0)) (VecWindow.window (s := S16x256) (scAt i dls sc) (k0_off2 i 0#32) S1x256.size (k0_off2_inb i 0))⟩))
      ⊢ wp frame (wpE (defs₀ (F := F)) 𝒱₀ (c : Thread nD τ) none) E (k0_part5 i arg1 harg1 arg2 harg2 arg3 harg3 arg4 harg4 arg5 harg5 arg6 harg6 arg7 harg7 arg8 harg8 arg9 harg9 arg10 harg10 arg11 harg11 arg12 harg12) K := by
  rw [k0_part5_eq_skeleton]; unfold k0_part5_skel
  unfold pAt eAt hxAt scAt
  dsimp only
  by_cases h1 : firstBit i = 1#1
  · simp only [if_pos h1]
    unfold firstBit at h1
    rw [dif_pos h1]
    simp only [Prog.bind_assoc, Prog.lift, Prog.bind_op, Prog.bind_ret, Prog.pure_eq_ret]
    iintro ⟨⟨H12, H7, H11, H6, H5, H9, H4, H10⟩, Hk⟩
    rw [wp_bind]
    iapply (part1_spec c E i arg1 harg1 arg2 harg2 arg3 harg3 arg4 harg4 arg5 harg5 arg6 harg6 arg7 harg7 arg8 harg8 arg9 harg9 arg10 harg10 arg11 harg11 arg12 harg12 _ _ _ _ _ _ _)
    isplitl [H12 H7 H11 H6 H5 H9]
    · isplitl [H12]; · iexact H12
      isplitl [H7]; · iexact H7
      isplitl [H11]; · iexact H11
      isplitl [H6]; · iexact H6
      isplitl [H5]; · iexact H5
      iexact H9
    iintro ⟨H12, H7, H11, H6, H5, H9⟩
    dsimp only
    rw [wp_bind]
    iapply (part2_spec c E i arg1 harg1 arg2 harg2 arg3 harg3 arg4 harg4 arg5 harg5 arg6 harg6 arg7 harg7 arg8 harg8 arg9 harg9 arg10 harg10 arg11 harg11 arg12 harg12 _ _ _ _)
    isplitl [H5 H9]
    · isplitl [H5]; · iexact H5
      iexact H9
    iintro ⟨H5, H9⟩
    dsimp only
    rw [wp_bind]
    iapply (part3_spec c E i arg1 harg1 arg2 harg2 arg3 harg3 arg4 harg4 arg5 harg5 arg6 harg6 arg7 harg7 arg8 harg8 arg9 harg9 arg10 harg10 arg11 harg11 arg12 harg12 _ _ _ _ _ _ _)
    isplitl [H9 H4 H10 H6 H5]
    · isplitl [H9]; · iexact H9
      isplitl [H4]; · iexact H4
      isplitl [H10]; · iexact H10
      isplitl [H6]; · iexact H6
      iexact H5
    iintro ⟨H9, H4, H10, H6, H5⟩
    dsimp only
    rw [wp_bind]
    iapply (part4_spec c E i arg1 harg1 arg2 harg2 arg3 harg3 arg4 harg4 arg5 harg5 arg6 harg6 arg7 harg7 arg8 harg8 arg9 harg9 arg10 harg10 arg11 harg11 arg12 harg12 _ _ _ _ _ _)
    isplitl [H9 H5]
    · isplitl [H9]; · iexact H9
      iexact H5
    iintro ⟨H9, H5⟩
    dsimp only
    iapply (Owned.load 𝒱₀ (c : Thread nD τ) none E (m := arg9)) $$ H9; iintro H9
    iapply (Owned.store 𝒱₀ (c : Thread nD τ) none E (m := arg9)) $$ H9; iintro H9
    iapply (Owned.load 𝒱₀ (c : Thread nD τ) none E (m := arg4)) $$ H4; iintro H4
    iapply (Owned.load 𝒱₀ (c : Thread nD τ) none E (m := arg10)) $$ H10; iintro H10
    iapply (Owned.store 𝒱₀ (c : Thread nD τ) none E (m := arg10)) $$ H10; iintro H10
    iapply (Owned.load 𝒱₀ (c : Thread nD τ) none E (m := arg10)) $$ H10; iintro H10
    iapply (Owned.load 𝒱₀ (c : Thread nD τ) none E (m := arg10)) $$ H10; iintro H10
    rw [wp_ret]; imodintro
    unfold scFill hxFill
    rw [put_one]
    iapply Hk
    isplitl [H12]; · iexact H12
    isplitl [H7]; · iexact H7
    isplitl [H11]; · iexact H11
    isplitl [H6]; · iexact H6
    isplitl [H5]; · iexact H5
    isplitl [H9]; · iexact H9
    isplitl [H4]; · iexact H4
    iexact H10
  · simp only [if_neg h1]
    unfold firstBit at h1
    rw [dif_neg h1]
    simp only [Prog.lift, Prog.bind_op, Prog.bind_ret, Prog.pure_eq_ret]
    iintro ⟨⟨H12, H7, H11, H6, H5, H9, H4, H10⟩, Hk⟩
    iapply (Owned.load 𝒱₀ (c : Thread nD τ) none E (m := arg10)) $$ H10; iintro H10
    iapply (Owned.load 𝒱₀ (c : Thread nD τ) none E (m := arg10)) $$ H10; iintro H10
    rw [wp_ret]; imodintro
    iapply Hk
    isplitl [H12]; · iexact H12
    isplitl [H7]; · iexact H7
    isplitl [H11]; · iexact H11
    isplitl [H6]; · iexact H6
    isplitl [H5]; · iexact H5
    isplitl [H9]; · iexact H9
    isplitl [H4]; · iexact H4
    iexact H10

/-- Part 6 of the body, met by what it reads and writes. -/
theorem part6_spec (v39 : FVec F S256x256 .f32) (dl : S2x128x1024.Idx → Elt F .fp8e5m2) (hx : S256x1024.Idx → Elt F .bf16) (o : S1024x1024.Idx → Elt F .f32) (K : (Σ' (v54 : BitVec 32) (v72 : BitVec 32) (v74 : BitVec 32), BitVec 32) → sProp 𝕄) :
    iprop((owns (Val := Elt F) (c : Thread nD τ) arg3 fullShare dl ∗ owns (Val := Elt F) (c : Thread nD τ) arg9 fullShare hx ∗ owns (Val := Elt F) (c : Thread nD τ) arg8 fullShare o) ∗ ((owns (Val := Elt F) (c : Thread nD τ) arg3 fullShare dl ∗ owns (Val := Elt F) (c : Thread nD τ) arg9 fullShare hx ∗ owns (Val := Elt F) (c : Thread nD τ) arg8 fullShare (VecWindow.put o ![0, 0] S256x1024.size (k0_pay28 v39 (VecWindow.window (s := S2x128x1024) dl ![0, 0, 0] S1x128x256.size inb_S2x128x1024_S1x128x256_0_0_0) (VecWindow.window (s := S2x128x1024) dl ![1, 0, 0] S1x128x256.size inb_S2x128x1024_S1x128x256_1_0_0) (VecWindow.window (s := S256x1024) hx ![0, 0] S256x1024.size inb_S256x1024_S256x1024_0_0)))) -∗ K (words6 (BitVec.ofNat 32 (i 0).val))))
      ⊢ wp frame (wpE (defs₀ (F := F)) 𝒱₀ (c : Thread nD τ) none) E (k0_part6 i arg1 harg1 arg2 harg2 arg3 harg3 arg4 harg4 arg5 harg5 arg6 harg6 arg7 harg7 arg8 harg8 arg9 harg9 arg10 harg10 arg11 harg11 arg12 harg12 (BitVec.ofNat 32 (i 0).val) v39) K := by
  rw [k0_part6_eq_skeleton]; unfold k0_part6_skel
  simp only [smemLoad, smemLoadElt, Prog.lift, Prog.bind_op, Prog.bind_ret, Prog.pure_eq_ret]
  iintro ⟨⟨H3, H9, H8⟩, Hk⟩
  iapply (Owned.load 𝒱₀ (c : Thread nD τ) none E (m := arg3)) $$ H3; iintro H3
  iapply (Owned.load 𝒱₀ (c : Thread nD τ) none E (m := arg3)) $$ H3; iintro H3
  iapply (Owned.load 𝒱₀ (c : Thread nD τ) none E (m := arg9)) $$ H9; iintro H9
  iapply (Owned.load 𝒱₀ (c : Thread nD τ) none E (m := arg8)) $$ H8; iintro H8
  iapply (Owned.store 𝒱₀ (c : Thread nD τ) none E (m := arg8)) $$ H8; iintro H8
  rw [wp_ret]; imodintro
  simp only [words6]
  iapply Hk
  isplitl [H3]; · iexact H3
  isplitl [H9]; · iexact H9
  iexact H8

/-- Part 7 of the body, met by what it reads and writes. -/
theorem part7_spec  (sc : S16x256.Idx → Elt F .f32) (dl : S2x128x1024.Idx → Elt F .fp8e5m2) (hx : S256x1024.Idx → Elt F .bf16) (o : S1024x1024.Idx → Elt F .f32) (K : (Σ' (v104 : BitVec 32) (c9496_i32_47 : BitVec 32) (v105 : BitVec 32) (v110 : BitVec 32) (v112 : BitVec 32), BitVec 32) → sProp 𝕄) :
    iprop((owns (Val := Elt F) (c : Thread nD τ) arg10 fullShare sc ∗ owns (Val := Elt F) (c : Thread nD τ) arg3 fullShare dl ∗ owns (Val := Elt F) (c : Thread nD τ) arg9 fullShare hx ∗ owns (Val := Elt F) (c : Thread nD τ) arg8 fullShare o) ∗ ((owns (Val := Elt F) (c : Thread nD τ) arg10 fullShare sc ∗ owns (Val := Elt F) (c : Thread nD τ) arg3 fullShare dl ∗ owns (Val := Elt F) (c : Thread nD τ) arg9 fullShare hx ∗ owns (Val := Elt F) (c : Thread nD τ) arg8 fullShare (VecWindow.put o ![256, 0] S256x1024.size (tile1 i dl hx sc))) -∗ K (words7 (BitVec.ofNat 32 (i 0).val))))
      ⊢ wp frame (wpE (defs₀ (F := F)) 𝒱₀ (c : Thread nD τ) none) E (k0_part7 i arg1 harg1 arg2 harg2 arg3 harg3 arg4 harg4 arg5 harg5 arg6 harg6 arg7 harg7 arg8 harg8 arg9 harg9 arg10 harg10 arg11 harg11 arg12 harg12 (BitVec.ofNat 32 (i 0).val) (words6 (BitVec.ofNat 32 (i 0).val)).1 (words6 (BitVec.ofNat 32 (i 0).val)).2.1 (words6 (BitVec.ofNat 32 (i 0).val)).2.2.1 (words6 (BitVec.ofNat 32 (i 0).val)).2.2.2) K := by
  rw [k0_part7_eq_skeleton]; unfold k0_part7_skel
  simp only [smemLoad, smemLoadElt, Prog.lift, Prog.bind_op, Prog.bind_ret, Prog.pure_eq_ret]
  iintro ⟨⟨H10, H3, H9, H8⟩, Hk⟩
  iapply (Owned.load 𝒱₀ (c : Thread nD τ) none E (m := arg10)) $$ H10; iintro H10
  iapply (Owned.load 𝒱₀ (c : Thread nD τ) none E (m := arg10)) $$ H10; iintro H10
  iapply (Owned.load 𝒱₀ (c : Thread nD τ) none E (m := arg3)) $$ H3; iintro H3
  iapply (Owned.load 𝒱₀ (c : Thread nD τ) none E (m := arg3)) $$ H3; iintro H3
  iapply (Owned.load 𝒱₀ (c : Thread nD τ) none E (m := arg9)) $$ H9; iintro H9
  iapply (Owned.load 𝒱₀ (c : Thread nD τ) none E (m := arg8)) $$ H8; iintro H8
  iapply (Owned.store 𝒱₀ (c : Thread nD τ) none E (m := arg8)) $$ H8; iintro H8
  rw [wp_ret]; imodintro
  simp only [words7]
  iapply Hk
  isplitl [H10]; · iexact H10
  isplitl [H3]; · iexact H3
  isplitl [H9]; · iexact H9
  iexact H8

/-- Part 8 of the body, met by what it reads and writes. -/
theorem part8_spec  (sc : S16x256.Idx → Elt F .f32) (dl : S2x128x1024.Idx → Elt F .fp8e5m2) (hx : S256x1024.Idx → Elt F .bf16) (o : S1024x1024.Idx → Elt F .f32) (K : FVec F S256x1024 .f32 → sProp 𝕄) :
    iprop((owns (Val := Elt F) (c : Thread nD τ) arg10 fullShare sc ∗ owns (Val := Elt F) (c : Thread nD τ) arg3 fullShare dl ∗ owns (Val := Elt F) (c : Thread nD τ) arg9 fullShare hx ∗ owns (Val := Elt F) (c : Thread nD τ) arg8 fullShare o) ∗ ((owns (Val := Elt F) (c : Thread nD τ) arg10 fullShare sc ∗ owns (Val := Elt F) (c : Thread nD τ) arg3 fullShare dl ∗ owns (Val := Elt F) (c : Thread nD τ) arg9 fullShare hx ∗ owns (Val := Elt F) (c : Thread nD τ) arg8 fullShare o) -∗ K (tile2 i dl hx sc)))
      ⊢ wp frame (wpE (defs₀ (F := F)) 𝒱₀ (c : Thread nD τ) none) E (k0_part8 i arg1 harg1 arg2 harg2 arg3 harg3 arg4 harg4 arg5 harg5 arg6 harg6 arg7 harg7 arg8 harg8 arg9 harg9 arg10 harg10 arg11 harg11 arg12 harg12 (words7 (BitVec.ofNat 32 (i 0).val)).1 (words7 (BitVec.ofNat 32 (i 0).val)).2.1 (words7 (BitVec.ofNat 32 (i 0).val)).2.2.1 (words7 (BitVec.ofNat 32 (i 0).val)).2.2.2.1 (words7 (BitVec.ofNat 32 (i 0).val)).2.2.2.2.1 (words7 (BitVec.ofNat 32 (i 0).val)).2.2.2.2.2) K := by
  rw [k0_part8_eq_skeleton]; unfold k0_part8_skel
  simp only [smemLoad, smemLoadElt, Prog.lift, Prog.bind_op, Prog.bind_ret, Prog.pure_eq_ret]
  iintro ⟨⟨H10, H3, H9, H8⟩, Hk⟩
  iapply (Owned.load 𝒱₀ (c : Thread nD τ) none E (m := arg10)) $$ H10; iintro H10
  iapply (Owned.load 𝒱₀ (c : Thread nD τ) none E (m := arg10)) $$ H10; iintro H10
  iapply (Owned.load 𝒱₀ (c : Thread nD τ) none E (m := arg3)) $$ H3; iintro H3
  iapply (Owned.load 𝒱₀ (c : Thread nD τ) none E (m := arg3)) $$ H3; iintro H3
  iapply (Owned.load 𝒱₀ (c : Thread nD τ) none E (m := arg9)) $$ H9; iintro H9
  iapply (Owned.load 𝒱₀ (c : Thread nD τ) none E (m := arg8)) $$ H8; iintro H8
  rw [wp_ret]; imodintro
  simp only [tile2]
  iapply Hk
  isplitl [H10]; · iexact H10
  isplitl [H3]; · iexact H3
  isplitl [H9]; · iexact H9
  iexact H8

/-- Part 9 of the body, met by what it reads and writes. -/
theorem part9_spec (v151 : FVec F S256x1024 .f32) (o : S1024x1024.Idx → Elt F .f32) (sc : S16x256.Idx → Elt F .f32) (dl : S2x128x1024.Idx → Elt F .fp8e5m2) (K : (Σ' (v190 : FVec F S256x256 .bf16), FVec F S128x256 .fp8e5m2) → sProp 𝕄) :
    iprop((owns (Val := Elt F) (c : Thread nD τ) arg8 fullShare o ∗ owns (Val := Elt F) (c : Thread nD τ) arg10 fullShare sc ∗ owns (Val := Elt F) (c : Thread nD τ) arg3 fullShare dl) ∗ ((owns (Val := Elt F) (c : Thread nD τ) arg8 fullShare (VecWindow.put o ![512, 0] S256x1024.size v151) ∗ owns (Val := Elt F) (c : Thread nD τ) arg10 fullShare sc ∗ owns (Val := Elt F) (c : Thread nD τ) arg3 fullShare dl) -∗ K ⟨k0_pay31 (BitVec.ofNat 32 (i 0).val) (VecWindow.window (s := S16x256) sc (k0_off1 i 768#32) S1x256.size (k0_off1_inb i 3)) (VecWindow.window (s := S16x256) sc (k0_off2 i 768#32) S1x256.size (k0_off2_inb i 3)), k0_pay32 (VecWindow.window (s := S2x128x1024) dl ![0, 0, 768] S1x128x256.size inb_S2x128x1024_S1x128x256_0_0_768)⟩))
      ⊢ wp frame (wpE (defs₀ (F := F)) 𝒱₀ (c : Thread nD τ) none) E (k0_part9 i arg1 harg1 arg2 harg2 arg3 harg3 arg4 harg4 arg5 harg5 arg6 harg6 arg7 harg7 arg8 harg8 arg9 harg9 arg10 harg10 arg11 harg11 arg12 harg12 (BitVec.ofNat 32 (i 0).val) v151) K := by
  rw [k0_part9_eq_skeleton]; unfold k0_part9_skel
  simp only [smemLoad, smemLoadElt, Prog.lift, Prog.bind_op, Prog.bind_ret, Prog.pure_eq_ret]
  iintro ⟨⟨H8, H10, H3⟩, Hk⟩
  iapply (Owned.store 𝒱₀ (c : Thread nD τ) none E (m := arg8)) $$ H8; iintro H8
  iapply (Owned.load 𝒱₀ (c : Thread nD τ) none E (m := arg10)) $$ H10; iintro H10
  iapply (Owned.load 𝒱₀ (c : Thread nD τ) none E (m := arg10)) $$ H10; iintro H10
  iapply (Owned.load 𝒱₀ (c : Thread nD τ) none E (m := arg3)) $$ H3; iintro H3
  rw [wp_ret]; imodintro
  iapply Hk
  isplitl [H8]; · iexact H8
  isplitl [H10]; · iexact H10
  iexact H3

/-- The whole body: from the position of the first id not below the block's start (at the first point it sets the
    position itself), it leaves the block at `blk`, the scratch buffers filled and the position at the first id not
    below the block's end. -/
theorem body_spec (ids : S256.Idx → Elt F .i32) (es : S256.Idx → Elt F .f32) (dl : S2x128x1024.Idx → Elt F .fp8e5m2) (dls : S2x128x16.Idx → Elt F .f32) (xc : S2x128x1024.Idx → Elt F .fp8e4m3) (xs : S2x128.Idx → Elt F .f32) (ec : S256x1024.Idx → Elt F .fp8e5m2) (o : S1024x1024.Idx → Elt F .f32) (hx : S256x1024.Idx → Elt F .bf16) (sc : S16x256.Idx → Elt F .f32) (e : S256x1024.Idx → Elt F .f32) (p : S1.Idx → Elt F .i32) (ok : Ids.Ok ids) (hp : pAt (F := F) i p = ptr (Ids.cnt ids (base i))) (K : PUnit → sProp 𝕄) :
    iprop((owns (Val := Elt F) (c : Thread nD τ) arg1 fullShare ids ∗ owns (Val := Elt F) (c : Thread nD τ) arg2 fullShare es ∗ owns (Val := Elt F) (c : Thread nD τ) arg3 fullShare dl ∗ owns (Val := Elt F) (c : Thread nD τ) arg4 fullShare dls ∗ owns (Val := Elt F) (c : Thread nD τ) arg5 fullShare xc ∗ owns (Val := Elt F) (c : Thread nD τ) arg6 fullShare xs ∗ owns (Val := Elt F) (c : Thread nD τ) arg7 fullShare ec ∗ owns (Val := Elt F) (c : Thread nD τ) arg8 fullShare o ∗ owns (Val := Elt F) (c : Thread nD τ) arg9 fullShare hx ∗ owns (Val := Elt F) (c : Thread nD τ) arg10 fullShare sc ∗ owns (Val := Elt F) (c : Thread nD τ) arg11 fullShare e ∗ owns (Val := Elt F) (c : Thread nD τ) arg12 fullShare p) ∗ ((owns (Val := Elt F) (c : Thread nD τ) arg1 fullShare ids ∗ owns (Val := Elt F) (c : Thread nD τ) arg2 fullShare es ∗ owns (Val := Elt F) (c : Thread nD τ) arg3 fullShare dl ∗ owns (Val := Elt F) (c : Thread nD τ) arg4 fullShare dls ∗ owns (Val := Elt F) (c : Thread nD τ) arg5 fullShare xc ∗ owns (Val := Elt F) (c : Thread nD τ) arg6 fullShare xs ∗ owns (Val := Elt F) (c : Thread nD τ) arg7 fullShare ec ∗ owns (Val := Elt F) (c : Thread nD τ) arg8 fullShare (blk i ids es dl (hxAt i xs xc hx) (scAt i dls sc) (eAt i ec e) o) ∗ owns (Val := Elt F) (c : Thread nD τ) arg9 fullShare (hxAt i xs xc hx) ∗ owns (Val := Elt F) (c : Thread nD τ) arg10 fullShare (scAt i dls sc) ∗ owns (Val := Elt F) (c : Thread nD τ) arg11 fullShare (eAt i ec e) ∗ owns (Val := Elt F) (c : Thread nD τ) arg12 fullShare (ptr (Ids.cnt ids (base i + 1024)))) -∗ K ⟨⟩))
      ⊢ wp frame (wpE (defs₀ (F := F)) 𝒱₀ (c : Thread nD τ) none) E (cc0_tied_dw i arg1 harg1 arg2 harg2 arg3 harg3 arg4 harg4 arg5 harg5 arg6 harg6 arg7 harg7 arg8 harg8 arg9 harg9 arg10 harg10 arg11 harg11 arg12 harg12) K := by
  rw [cc0_tied_dw_eq_skeleton]; unfold cc0_tied_dw_skel
  iintro ⟨⟨H1, H2, H3, H4, H5, H6, H7, H8, H9, H10, H11, H12⟩, Hk⟩

  rw [wp_bind]
  iapply (part5_spec c E i arg1 harg1 arg2 harg2 arg3 harg3 arg4 harg4 arg5 harg5 arg6 harg6 arg7 harg7 arg8 harg8 arg9 harg9 arg10 harg10 arg11 harg11 arg12 harg12 _ _ _ _ _ _ _ _ _)
  isplitl [H12 H7 H11 H6 H5 H9 H4 H10]
  · isplitl [H12]; · iexact H12
    isplitl [H7]; · iexact H7
    isplitl [H11]; · iexact H11
    isplitl [H6]; · iexact H6
    isplitl [H5]; · iexact H5
    isplitl [H9]; · iexact H9
    isplitl [H4]; · iexact H4
    iexact H10
  iintro ⟨H12, H7, H11, H6, H5, H9, H4, H10⟩
  dsimp only

  rw [wp_bind]
  iapply (part6_spec c E i arg1 harg1 arg2 harg2 arg3 harg3 arg4 harg4 arg5 harg5 arg6 harg6 arg7 harg7 arg8 harg8 arg9 harg9 arg10 harg10 arg11 harg11 arg12 harg12 _ _ _ _ _)
  isplitl [H3 H9 H8]
  · isplitl [H3]; · iexact H3
    isplitl [H9]; · iexact H9
    iexact H8
  iintro ⟨H3, H9, H8⟩
  dsimp only

  rw [wp_bind]
  iapply (part7_spec c E i arg1 harg1 arg2 harg2 arg3 harg3 arg4 harg4 arg5 harg5 arg6 harg6 arg7 harg7 arg8 harg8 arg9 harg9 arg10 harg10 arg11 harg11 arg12 harg12 _ _ _ _ _)
  isplitl [H10 H3 H9 H8]
  · isplitl [H10]; · iexact H10
    isplitl [H3]; · iexact H3
    isplitl [H9]; · iexact H9
    iexact H8
  iintro ⟨H10, H3, H9, H8⟩
  dsimp only

  rw [wp_bind]
  iapply (part8_spec c E i arg1 harg1 arg2 harg2 arg3 harg3 arg4 harg4 arg5 harg5 arg6 harg6 arg7 harg7 arg8 harg8 arg9 harg9 arg10 harg10 arg11 harg11 arg12 harg12 _ _ _ _ _)
  isplitl [H10 H3 H9 H8]
  · isplitl [H10]; · iexact H10
    isplitl [H3]; · iexact H3
    isplitl [H9]; · iexact H9
    iexact H8
  iintro ⟨H10, H3, H9, H8⟩

  rw [wp_bind]
  iapply (part9_spec c E i arg1 harg1 arg2 harg2 arg3 harg3 arg4 harg4 arg5 harg5 arg6 harg6 arg7 harg7 arg8 harg8 arg9 harg9 arg10 harg10 arg11 harg11 arg12 harg12 _ _ _ _ _)
  isplitl [H8 H10 H3]
  · isplitl [H8]; · iexact H8
    isplitl [H10]; · iexact H10
    iexact H3
  iintro ⟨H8, H10, H3⟩
  dsimp only

  simp only [smemLoad, smemLoadElt, Prog.lift, Prog.bind_op, Prog.bind_ret, Prog.pure_eq_ret]

  iapply (Owned.load 𝒱₀ (c : Thread nD τ) none E (m := arg3)) $$ H3; iintro H3
  iapply (Owned.load 𝒱₀ (c : Thread nD τ) none E (m := arg9)) $$ H9; iintro H9
  iapply (Owned.load 𝒱₀ (c : Thread nD τ) none E (m := arg8)) $$ H8; iintro H8
  iapply (Owned.store 𝒱₀ (c : Thread nD τ) none E (m := arg8)) $$ H8; iintro H8
  iapply (Owned.load 𝒱₀ (c : Thread nD τ) none E (m := arg12)) $$ H12; iintro H12

  have hj : Ids.cnt ids (base i) + (Ids.cnt ids (base i + 1024) - Ids.cnt ids (base i)) = Ids.cnt ids (base i + 1024) := by
    have := Ids.cnt_mono ids (b := base i) (b' := base i + 1024) (by omega)
    omega
  rw [hp]
  iapply (wp_call_spec 𝒱₀ (c : Thread nD τ) none E (spec c i ids es (eAt i ec e) arg1 arg8 arg11 arg2 fullShare fullShare (Ids.cnt ids (base i))
      (Ids.cnt ids (base i + 1024) - Ids.cnt ids (base i)) (tiles i dl (hxAt i xs xc hx) (scAt i dls sc) o)) _ (fun u hu => nomatch hu)
    (spec_le c i ids es (eAt i ec e) arg1 harg1 arg8 harg8 arg11 harg11 arg2 harg2 fullShare fullShare ok E
      (Ids.cnt ids (base i + 1024) - Ids.cnt ids (base i)) (Ids.cnt ids (base i)) hj le_rfl (tiles i dl (hxAt i xs xc hx) (scAt i dls sc) o)))
  rw [spec_apply]; unfold held
  isplitl [H1 H2 H11 H8]
  · isplitl [H1]; · iexact H1
    isplitl [H2]; · iexact H2
    isplitl [H11]; · iexact H11
    iexact H8
  iintro ⟨H1, H2, H11, H8⟩
  rw [hj]

  iapply (Owned.load 𝒱₀ (c : Thread nD τ) none E (m := arg12)) $$ H12; iintro H12
  iapply (Owned.store 𝒱₀ (c : Thread nD τ) none E (m := arg12)) $$ H12; iintro H12

  rw [put_one]
  rw [wp_ret]; imodintro
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

end Parts

end Cert.Proof.KI

end
-- ==== Proof.KI.Obl.lean ====
/-
  The pipeline's proof data and its body obligation. The kernel's grid has one axis of 149 points; six of the windows are
  whole arrays, the window of the gradient and the window of the result walk along the vocabulary, and their last block
  sticks out of the array. The invariant between the points is that the scratch buffers hold what the first point filled
  them with (a condition `Good` on them that a caller chooses) and that the kept position of the loop is the number of ids
  below the next block's first row.
-/
module

public import proofs.«01_k».proof.Proof.KI.Body
public import proofs.«01_k».proof.Proof.Gen.KernelIdeal.Launch
public import proofs.«01_k».proof.Proof.Gen.KernelIdeal.Points
public import Idealize.ShloMosaic.Lib.Pipeline.FrameBody
public import Idealize.ShloMosaic.Lib.Pipeline.ValueKit

@[expose] public section

noncomputable section

namespace Cert.Proof.KI

open Cert.KernelIdeal Cert.KernelIdeal.Gen Cert.Proof

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.WordArith
open Idealize.ShloMosaic.Pipeline (Dat Cfg Window BodyObligation BodyObligationLoose cellOf)

variable {F : FTy → Type} [FloatOps F]

local notation "𝕄" => MT nD τ sig Unit (Elt F) ℕ (UR nD τ) ℕ

variable (m : (ℓ : Loc nD τ sig) → Buf (Elt F) ℓ)

/-! ## The arguments -/

/-- The seven argument arrays as the launch finds them. -/
def mDl (c : Dev nD) : S2x128x151936.Idx → Elt F .fp8e5m2 := m ((c : Thread nD τ).loc main_arg0)
def mDls (c : Dev nD) : S2x128x16.Idx → Elt F .f32 := m ((c : Thread nD τ).loc main_arg1)
def mXc (c : Dev nD) : S2x128x1024.Idx → Elt F .fp8e4m3 := m ((c : Thread nD τ).loc main_arg2)
def mXs (c : Dev nD) : S2x128.Idx → Elt F .f32 := m ((c : Thread nD τ).loc main_arg3)
def mEc (c : Dev nD) : S256x1024.Idx → Elt F .fp8e5m2 := m ((c : Thread nD τ).loc main_arg4)
def mEs (c : Dev nD) : S256.Idx → Elt F .f32 := m ((c : Thread nD τ).loc main_arg5)
def mIds (c : Dev nD) : S256.Idx → Elt F .i32 := m ((c : Thread nD τ).loc main_arg6)

/-! ## The grid -/

/-- A point's one coordinate is its number. -/
theorem coord_val (t : Fin grid0.N) : (grid0.coords t 0).val = t.val := by
  have h := Pipeline.Grid.coords_val (G := grid0) t 0 (S := 1) (B := 149) (by decide) rfl
  have h' : t.val < 149 := lt_of_lt_of_eq t.isLt N_0
  rw [h, Nat.div_one, Nat.mod_eq_of_lt h']

/-- The first vocabulary row of point `t`'s block. -/
theorem base_coords (t : Fin grid0.N) : base (grid0.coords t) = 1024 * t.val := by
  unfold base; rw [coord_val]

/-- The first point is the one at which the body fills the scratch buffers. -/
theorem firstBit_iff (t : Fin grid0.N) : firstBit (grid0.coords t) = 1#1 ↔ t.val = 0 := by
  have key : ∀ n : Fin 149, (Scalar.cmpi .ne (Scalar.extui (Scalar.cmpi .eq (BitVec.ofNat 32 n.val) 0#32) : BitVec 32) 0#32 = 1#1) ↔ n.val = 0 := by
    decide +kernel
  have h' : t.val < 149 := lt_of_lt_of_eq t.isLt N_0
  unfold firstBit
  rw [coord_val]
  exact key ⟨t.val, h'⟩

/-! ## The input windows' blocks: the arrays, whole -/

theorem read_blk_0 (t : Fin grid0.N) (X : S256.Idx → Elt F .i32) : (win0_0.blk t).view.read (Elt F) X = X := by
  funext y; exact congrArg X (by blk_ext [(show win0_0.index t 0 = 0 from rfl)])
theorem read_blk_1 (t : Fin grid0.N) (X : S256.Idx → Elt F .f32) : (win0_1.blk t).view.read (Elt F) X = X := by
  funext y; exact congrArg X (by blk_ext [(show win0_1.index t 0 = 0 from rfl)])
theorem read_blk_3 (t : Fin grid0.N) (X : S2x128x16.Idx → Elt F .f32) : (win0_3.blk t).view.read (Elt F) X = X := by
  funext y; exact congrArg X (by blk_ext [(show win0_3.index t 0 = 0 from rfl), (show win0_3.index t 1 = 0 from rfl), (show win0_3.index t 2 = 0 from rfl)])
theorem read_blk_4 (t : Fin grid0.N) (X : S2x128x1024.Idx → Elt F .fp8e4m3) : (win0_4.blk t).view.read (Elt F) X = X := by
  funext y; exact congrArg X (by blk_ext [(show win0_4.index t 0 = 0 from rfl), (show win0_4.index t 1 = 0 from rfl), (show win0_4.index t 2 = 0 from rfl)])
theorem read_blk_5 (t : Fin grid0.N) (X : S2x128.Idx → Elt F .f32) : (win0_5.blk t).view.read (Elt F) X = X := by
  funext y; exact congrArg X (by blk_ext [(show win0_5.index t 0 = 0 from rfl), (show win0_5.index t 1 = 0 from rfl)])
theorem read_blk_6 (t : Fin grid0.N) (X : S256x1024.Idx → Elt F .fp8e5m2) : (win0_6.blk t).view.read (Elt F) X = X := by
  funext y; exact congrArg X (by blk_ext [(show win0_6.index t 0 = 0 from rfl), (show win0_6.index t 1 = 0 from rfl)])

/-! ## The proof data -/

variable (Good : Dev nD → (S256x1024.Idx → Elt F .bf16) → (S16x256.Idx → Elt F .f32) → (S256x1024.Idx → Elt F .f32) → Prop)
variable (out7 : Dev nD → Fin grid0.N → S1024x1024.Idx → Elt F .f32)

/-- Between the points: the four scratch buffers, past the first point with what it filled them with and with the number
    of ids below the next block's first row. -/
def PhiN (c : Dev nD) (n : ℕ) : sProp 𝕄 :=
  iprop(∃ hx sc e p, owns (c : Thread nD τ) (Memref.whole cc0_scratch0) fullShare hx ∗ owns (c : Thread nD τ) (Memref.whole cc0_scratch1) fullShare sc
    ∗ owns (c : Thread nD τ) (Memref.whole cc0_scratch2) fullShare e ∗ owns (c : Thread nD τ) (Memref.whole cc0_scratch3) fullShare p
    ∗ ⌜n ≠ 0 → Good c hx sc e ∧ p = ptr (F := F) (Ids.cnt (mIds m c) (1024 * n))⌝)

/-- The gradient's block at point `t`, the part past the array's end being anything. -/
def dlAny (c : Dev nD) (t : Fin grid0.N) : S2x128x1024.Idx → Elt F .fp8e5m2 :=
  win0_2.fill (grid0.coords t) (fun _ => mDl m c (fun a => ⟨0, by fin_cases a <;> decide⟩)) ((win0_2.blk t).view.read (Elt F) (mDl m c))

/-- The pipeline's proof data: the arrays as launched; the body leaves its input blocks as they are. -/
def dats (_ : Fin 1) (c : Dev nD) : Dat τ (Elt F) Unit ℕ (UR nD τ) ℕ (cfg0 (F := F)) c where
  A w := m ((c : Thread nD τ).loc (Pipeline.arrRef spec0 w))
  after w t := match w with
    | ⟨0, _⟩ => mIds m c
    | ⟨1, _⟩ => mEs m c
    | ⟨2, _⟩ => dlAny m c t
    | ⟨3, _⟩ => mDls m c
    | ⟨4, _⟩ => mXc m c
    | ⟨5, _⟩ => mXs m c
    | ⟨6, _⟩ => mEc m c
    | ⟨7, _⟩ => out7 c t
  Φ t := PhiN m Good c t.val
  q _ := fullShare
  owed _ := 0

theorem after_0 (c : Dev nD) (t : Fin (cfg0 (F := F)).N) : (dats m Good out7 0 c).after 0 t = mIds m c := rfl
theorem after_1 (c : Dev nD) (t : Fin (cfg0 (F := F)).N) : (dats m Good out7 0 c).after 1 t = mEs m c := rfl
theorem after_2 (c : Dev nD) (t : Fin (cfg0 (F := F)).N) : (dats m Good out7 0 c).after 2 t = dlAny m c t := rfl
theorem after_3 (c : Dev nD) (t : Fin (cfg0 (F := F)).N) : (dats m Good out7 0 c).after 3 t = mDls m c := rfl
theorem after_4 (c : Dev nD) (t : Fin (cfg0 (F := F)).N) : (dats m Good out7 0 c).after 4 t = mXc m c := rfl
theorem after_5 (c : Dev nD) (t : Fin (cfg0 (F := F)).N) : (dats m Good out7 0 c).after 5 t = mXs m c := rfl
theorem after_6 (c : Dev nD) (t : Fin (cfg0 (F := F)).N) : (dats m Good out7 0 c).after 6 t = mEc m c := rfl
theorem after_7 (c : Dev nD) (t : Fin (cfg0 (F := F)).N) : (dats m Good out7 0 c).after 7 t = out7 c t := rfl

theorem before_0 (c : Dev nD) (t : Fin (cfg0 (F := F)).N) (d) : (dats m Good out7 0 c).before 0 t d = mIds m c :=
  ((dats m Good out7 0 c).before_in_eq_fetched 0 rfl (fun _ => rfl) (fun _ _ _ => rfl) (fun t => by rw [after_0]; exact (read_blk_0 t (mIds m c)).symm) t d).trans
    (read_blk_0 t (mIds m c))
theorem before_1 (c : Dev nD) (t : Fin (cfg0 (F := F)).N) (d) : (dats m Good out7 0 c).before 1 t d = mEs m c :=
  ((dats m Good out7 0 c).before_in_eq_fetched 1 rfl (fun _ => rfl) (fun _ _ _ => rfl) (fun t => by rw [after_1]; exact (read_blk_1 t (mEs m c)).symm) t d).trans
    (read_blk_1 t (mEs m c))
theorem before_3 (c : Dev nD) (t : Fin (cfg0 (F := F)).N) (d) : (dats m Good out7 0 c).before 3 t d = mDls m c :=
  ((dats m Good out7 0 c).before_in_eq_fetched 3 rfl (fun _ => rfl) (fun _ _ _ => rfl) (fun t => by rw [after_3]; exact (read_blk_3 t (mDls m c)).symm) t d).trans
    (read_blk_3 t (mDls m c))
theorem before_4 (c : Dev nD) (t : Fin (cfg0 (F := F)).N) (d) : (dats m Good out7 0 c).before 4 t d = mXc m c :=
  ((dats m Good out7 0 c).before_in_eq_fetched 4 rfl (fun _ => rfl) (fun _ _ _ => rfl) (fun t => by rw [after_4]; exact (read_blk_4 t (mXc m c)).symm) t d).trans
    (read_blk_4 t (mXc m c))
theorem before_5 (c : Dev nD) (t : Fin (cfg0 (F := F)).N) (d) : (dats m Good out7 0 c).before 5 t d = mXs m c :=
  ((dats m Good out7 0 c).before_in_eq_fetched 5 rfl (fun _ => rfl) (fun _ _ _ => rfl) (fun t => by rw [after_5]; exact (read_blk_5 t (mXs m c)).symm) t d).trans
    (read_blk_5 t (mXs m c))
theorem before_6 (c : Dev nD) (t : Fin (cfg0 (F := F)).N) (d) : (dats m Good out7 0 c).before 6 t d = mEc m c :=
  ((dats m Good out7 0 c).before_in_eq_fetched 6 rfl (fun _ => rfl) (fun _ _ _ => rfl) (fun t => by rw [after_6]; exact (read_blk_6 t (mEc m c)).symm) t d).trans
    (read_blk_6 t (mEc m c))

/-- The gradient's block at point `t` with `d` past the array's end. -/
def dlAt (c : Dev nD) (t : Fin grid0.N) (d : S2x128x1024.Idx → Elt F .fp8e5m2) : S2x128x1024.Idx → Elt F .fp8e5m2 :=
  win0_2.fill (grid0.coords t) d ((win0_2.blk t).view.read (Elt F) (mDl m c))

theorem before_2 (c : Dev nD) (t : Fin (cfg0 (F := F)).N) (d) : (dats m Good out7 0 c).before 2 t d = dlAt m c t d :=
  (dats m Good out7 0 c).before_fetched 2 t (fetch0_2 t) d

/-- What is past the array's end is not what the transfers move. -/
theorem fill_dlAny (c : Dev nD) (t : Fin grid0.N) (d : S2x128x1024.Idx → Elt F .fp8e5m2) :
    win0_2.fill (grid0.coords t) d (win0_2.cut (grid0.coords t) (dlAny m c t)) = dlAt m c t d := by
  unfold dlAny dlAt
  rw [win0_2.cut_fill]

/-! ## The body at a point -/

/-- The result's block that the body at point `t` leaves, from what it finds in the scratch buffers. -/
def blkAt (c : Dev nD) (t : Fin grid0.N) (d : S2x128x1024.Idx → Elt F .fp8e5m2) (hx : S256x1024.Idx → Elt F .bf16) (sc : S16x256.Idx → Elt F .f32)
    (e : S256x1024.Idx → Elt F .f32) (o : S1024x1024.Idx → Elt F .f32) : S1024x1024.Idx → Elt F .f32 :=
  blk (grid0.coords t) (mIds m c) (mEs m c) (dlAt m c t d) hx sc e o

/-- The body at point `t`: from the invariant, the input blocks and anything in the result's buffer, to the invariant,
    the input blocks and the block computed from the filled scratch buffers. -/
theorem body_at (c : Dev nD) (ok : Ids.Ok (mIds m c))
    (hGood : ∀ hx sc e, Good c (hxFill (mXs m c) (mXc m c) hx) (scFill (mDls m c) sc) (eFill (mEc m c) e))
    (t : Fin grid0.N) (d : S2x128x1024.Idx → Elt F .fp8e5m2) (o : S1024x1024.Idx → Elt F .f32) (K : PUnit → sProp 𝕄) :
    iprop((PhiN m Good c t.val
        ∗ owns (c : Thread nD τ) (st0_0 (F := F) t) fullShare (mIds m c) ∗ owns (c : Thread nD τ) (st0_1 (F := F) t) fullShare (mEs m c)
        ∗ owns (c : Thread nD τ) (st0_2 (F := F) t) fullShare (dlAt m c t d) ∗ owns (c : Thread nD τ) (st0_3 (F := F) t) fullShare (mDls m c)
        ∗ owns (c : Thread nD τ) (st0_4 (F := F) t) fullShare (mXc m c) ∗ owns (c : Thread nD τ) (st0_5 (F := F) t) fullShare (mXs m c)
        ∗ owns (c : Thread nD τ) (st0_6 (F := F) t) fullShare (mEc m c) ∗ owns (c : Thread nD τ) (st0_7 (F := F) t) fullShare o)
      ∗ (iprop(PhiN m Good c (t.val + 1)
        ∗ owns (c : Thread nD τ) (st0_0 (F := F) t) fullShare (mIds m c) ∗ owns (c : Thread nD τ) (st0_1 (F := F) t) fullShare (mEs m c)
        ∗ owns (c : Thread nD τ) (st0_2 (F := F) t) fullShare (dlAt m c t d) ∗ owns (c : Thread nD τ) (st0_3 (F := F) t) fullShare (mDls m c)
        ∗ owns (c : Thread nD τ) (st0_4 (F := F) t) fullShare (mXc m c) ∗ owns (c : Thread nD τ) (st0_5 (F := F) t) fullShare (mXs m c)
        ∗ owns (c : Thread nD τ) (st0_6 (F := F) t) fullShare (mEc m c)
        ∗ (∃ hx sc e, ⌜Good c hx sc e⌝ ∗ owns (c : Thread nD τ) (st0_7 (F := F) t) fullShare (blkAt m c t d hx sc e o))) -∗ K ⟨⟩))
    ⊢ wp frame (wpE (defs₀ (F := F)) 𝒱₀ (c : Thread nD τ) none) Set.univ (bodyAt0 (F := F) t) K := by
  unfold PhiN
  iintro ⟨⟨⟨%hx, %sc, %e, %p, Hhx, Hsc, He, Hp, %hG⟩, H1, H2, H3, H4, H5, H6, H7, H8⟩, Hk⟩
  have hp : pAt (grid0.coords t) p = ptr (F := F) (Ids.cnt (mIds m c) (base (grid0.coords t))) := by
    unfold pAt
    rw [base_coords]
    by_cases h0 : t.val = 0
    · rw [if_pos ((firstBit_iff t).mpr h0), h0]
      rw [show Ids.cnt (mIds m c) (1024 * 0) = 0 from Ids.cnt_zero _]; rfl
    · rw [if_neg (fun h => h0 ((firstBit_iff t).mp h))]
      exact (hG h0).2
  have hgood : Good c (hxAt (grid0.coords t) (mXs m c) (mXc m c) hx) (scAt (grid0.coords t) (mDls m c) sc) (eAt (grid0.coords t) (mEc m c) e) := by
    unfold hxAt scAt eAt
    by_cases h0 : t.val = 0
    · simp only [if_pos ((firstBit_iff t).mpr h0)]; exact hGood _ _ _
    · simp only [if_neg (fun h => h0 ((firstBit_iff t).mp h))]; exact (hG h0).1
  iapply (body_spec c Set.univ (grid0.coords t) _ _ _ _ _ _ _ _ _ _ _ _ _ _ _ _ _ _ _ _ _ _ _ _
    (mIds m c) (mEs m c) (dlAt m c t d) (mDls m c) (mXc m c) (mXs m c) (mEc m c) o hx sc e p ok hp K)
  isplitl [H1 H2 H3 H4 H5 H6 H7 H8 Hhx Hsc He Hp]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [Hhx]; · iexact Hhx
    isplitl [Hsc]; · iexact Hsc
    isplitl [He]; · iexact He
    iexact Hp
  iintro ⟨H1, H2, H3, H4, H5, H6, H7, H8, Hhx, Hsc, He, Hp⟩
  iapply Hk
  isplitl [Hhx Hsc He Hp]
  · iexists _; iexists _; iexists _; iexists _
    isplitl [Hhx]; · iexact Hhx
    isplitl [Hsc]; · iexact Hsc
    isplitl [He]; · iexact He
    isplitl [Hp]; · iexact Hp
    ipureintro
    intro _
    refine ⟨hgood, ?_⟩
    rw [base_coords, Nat.mul_add, Nat.mul_one]
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexists _; iexists _
  isplitr
  · ipureintro; exact hgood
  iexact H8

/-- The body table's row at point `t`'s slots is the body as `bodyAt0` spells it. -/
theorem defs₀_row (t : Fin (cfg0 (F := F)).N) :
    defs₀ (F := F) .tc cfg0.body (cfg0.bodyArgs t (cfg0.slots t)) = bodyAt0 t := by
  unfold defs₀; rw [Defs.onTc_tc]

end Cert.Proof.KI

end
-- ==== Proof.KI.Frame.lean ====
/-
  The kernel's run over any floats, with nothing claimed of the result's values: every weakly fair execution ends, nothing
  faults, the argument arrays end unchanged and every semaphore counter is zero. The result's window is forgotten: whatever
  the body leaves in its buffer, past the array's end included, is written back.
-/
module

public import proofs.«01_k».proof.Proof.KI.Obl
public import Idealize.ShloMosaic.Lib.Pipeline.KitQuiescent
public import Idealize.ShloMosaic.PureOps.BitExact

@[expose] public section

noncomputable section

namespace Cert.Proof.KI

open Cert.KernelIdeal Cert.KernelIdeal.Gen Cert.Proof

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR nD τ) ℕ

/-- The rounds algebra's embedding into the machine's. -/
def EP : Emb (UR nD τ) (MT nD τ sig Unit (Elt F) ℕ (UR nD τ) ℕ) :=
  (Emb.refl _).trans (uEmb (nD := nD) (sig := sig) (Ix := Unit) (Val := Elt F) (Name := ℕ) (U := UR nD τ) (Lvl := ℕ)).toEmb

instance EP_landsIn : (EP : Emb (UR nD τ) 𝕄).LandsIn (upEmb : UEmb _ 𝕄) := by unfold EP; infer_instance

/-- The launch element: every staging cell's owner and a token for every transfer the pipeline issues. -/
def u₀ : UR nD τ := Rounds.initOf (Pipeline.cells (cfgs (F := F)) cellOf_inj) (Pipeline.launchToks (cfgs (F := F)) cellOf_inj)

/-- Owning a whole buffer at contents `X` is its points-to at `X`. -/
theorem owns_whole_intro (c : Dev nD) (b : Ref sig .tc) (f : Buf (Elt F) (((c : Dev nD) : Thread nD τ).loc b)) :
    ((((c : Thread nD τ).loc b) ↦{fullShare} f) : sProp 𝕄)
      ⊢ (owns (Ix := Unit) (Name := ℕ) (U := UR nD τ) (Lvl := ℕ) (c : Thread nD τ) (Memref.whole b) fullShare f : sProp 𝕄) := by
  unfold owns; simp only [Memref.view_whole, View.read_whole, View.set_whole]
  iintro H; iexists f; isplitr; · ipureintro; rfl
  iexact H

theorem owns_whole_elim (c : Dev nD) (b : Ref sig .tc) (X : b.ty.Contents (Elt F)) :
    (owns (Ix := Unit) (Name := ℕ) (U := UR nD τ) (Lvl := ℕ) (c : Thread nD τ) (Memref.whole b) fullShare X : sProp 𝕄)
      ⊢ iprop(∃ f : Buf (Elt F) (((c : Dev nD) : Thread nD τ).loc b), (((c : Thread nD τ).loc b) ↦{fullShare} f)) := by
  unfold owns; simp only [Memref.view_whole, View.read_whole, View.set_whole]
  iintro ⟨%f, -, H⟩; iexists f; iexact H

section Inv

variable (m : (ℓ : Loc nD τ sig) → Buf (Elt F) ℓ)
variable (Good : Dev nD → (S256x1024.Idx → Elt F .bf16) → (S16x256.Idx → Elt F .f32) → (S256x1024.Idx → Elt F .f32) → Prop)

/-- Ahead of the first point the invariant asks nothing of the scratch buffers' contents, -/
theorem phi_intro (c : Dev nD) : (Pipeline.scopedRest (Ix := Unit) (Name := ℕ) (U := UR nD τ) (Lvl := ℕ) (Val := Elt F) spec0 c : sProp 𝕄) ⊢ PhiN m Good c 0 := by
  rw [scopedRest0_eq]; unfold PhiN
  iintro ⟨⟨%f0, H0⟩, ⟨%f1, H1⟩, ⟨%f2, H2⟩, ⟨%f3, H3⟩⟩
  iexists f0; iexists f1; iexists f2; iexists f3
  isplitl [H0]; · iapply (owns_whole_intro c cc0_scratch0 f0); iexact H0
  isplitl [H1]; · iapply (owns_whole_intro c cc0_scratch1 f1); iexact H1
  isplitl [H2]; · iapply (owns_whole_intro c cc0_scratch2 f2); iexact H2
  isplitl [H3]; · iapply (owns_whole_intro c cc0_scratch3 f3); iexact H3
  ipureintro; intro h; exact absurd rfl h

/-- and at the end the scratch buffers go back to the machine. -/
theorem phi_exit (c : Dev nD) (n : ℕ) : PhiN m Good c n ⊢ (Pipeline.scopedRest (Ix := Unit) (Name := ℕ) (U := UR nD τ) (Lvl := ℕ) (Val := Elt F) spec0 c : sProp 𝕄) := by
  rw [scopedRest0_eq]; unfold PhiN
  iintro ⟨%f0, %f1, %f2, %f3, H0, H1, H2, H3, -⟩
  isplitl [H0]; · iapply (owns_whole_elim c cc0_scratch0 f0); iexact H0
  isplitl [H1]; · iapply (owns_whole_elim c cc0_scratch1 f1); iexact H1
  isplitl [H2]; · iapply (owns_whole_elim c cc0_scratch2 f2); iexact H2
  iapply (owns_whole_elim c cc0_scratch3 f3); iexact H3

end Inv

/-! ## The frame -/

section Frame

variable (m : (ℓ : Loc nD τ sig) → Buf (Elt F) ℓ) (ρ : Dev nD → PrngReg)

/-- The windows whose contents the run does not follow: the result's. -/
abbrev fgt : Fin 8 → Bool := fun w => decide (w = 7)

/-- The data: nothing asked of the scratch buffers' contents. -/
abbrev datsF [∀ e, Nonempty (Elt F e)] : (p : Fin 1) → (c : Dev nD) → Dat τ (Elt F) Unit ℕ (UR nD τ) ℕ (cfg0 (F := F)) c :=
  dats m (fun _ _ _ _ => True) (fun _ _ _ => Classical.arbitrary _)

variable [∀ e, Nonempty (Elt F e)]

/-- The gradient's block, described only on the part the transfers move. -/
theorem owns_fill (c : Dev nD) (t : Fin (cfg0 (F := F)).N) (d : S2x128x1024.Idx → Elt F .fp8e5m2) :
    (owns (c : Thread nD τ) (st0_2 (F := F) t) fullShare (dlAt m c t d) : sProp 𝕄)
      ⊢ owns (c : Thread nD τ) (st0_2 (F := F) t) fullShare (win0_2.fill (grid0.coords t) d (win0_2.cut (grid0.coords t) (dlAny m c t))) := by
  exact (congrArg (fun X => (owns (c : Thread nD τ) (st0_2 (F := F) t) fullShare X : sProp 𝕄)) (fill_dlAny m c t d).symm) ▸ BI.Entails.refl _

/-- The body at a point, in the shape the library asks for, the result's window forgotten. -/
theorem sound_body (c : Dev nD) (ok : Ids.Ok (mIds m c)) (t : Fin (cfg0 (F := F)).N) :
    iprop((datsF m 0 c).Φ t.castSucc ∗ (datsF m 0 c).owesAt () t.castSucc
      ∗ (∃ d, owns (c : Thread nD τ) (st0_0 t) fullShare ((datsF m 0 c).before 0 t d))
      ∗ (∃ d, owns (c : Thread nD τ) (st0_1 t) fullShare ((datsF m 0 c).before 1 t d))
      ∗ (∃ d, owns (c : Thread nD τ) (st0_2 t) fullShare ((datsF m 0 c).before 2 t d))
      ∗ (∃ d, owns (c : Thread nD τ) (st0_3 t) fullShare ((datsF m 0 c).before 3 t d))
      ∗ (∃ d, owns (c : Thread nD τ) (st0_4 t) fullShare ((datsF m 0 c).before 4 t d))
      ∗ (∃ d, owns (c : Thread nD τ) (st0_5 t) fullShare ((datsF m 0 c).before 5 t d))
      ∗ (∃ d, owns (c : Thread nD τ) (st0_6 t) fullShare ((datsF m 0 c).before 6 t d))
      ∗ (∃ X, owns (c : Thread nD τ) (st0_7 t) fullShare X))
    ⊢ wp frame (wpE (defs₀ (F := F)) 𝒱₀ (c : Thread nD τ) none) Set.univ (bodyAt0 t) (fun _ =>
      iprop((datsF m 0 c).Φ t.succ ∗ (datsF m 0 c).owesAt () t.succ
      ∗ owns (c : Thread nD τ) (st0_0 t) fullShare ((datsF m 0 c).after 0 t)
      ∗ owns (c : Thread nD τ) (st0_1 t) fullShare ((datsF m 0 c).after 1 t)
      ∗ (∃ d, owns (c : Thread nD τ) (st0_2 t) fullShare (win0_2.fill (grid0.coords t) d (win0_2.cut (grid0.coords t) ((datsF m 0 c).after 2 t))))
      ∗ owns (c : Thread nD τ) (st0_3 t) fullShare ((datsF m 0 c).after 3 t)
      ∗ owns (c : Thread nD τ) (st0_4 t) fullShare ((datsF m 0 c).after 4 t)
      ∗ owns (c : Thread nD τ) (st0_5 t) fullShare ((datsF m 0 c).after 5 t)
      ∗ owns (c : Thread nD τ) (st0_6 t) fullShare ((datsF m 0 c).after 6 t)
      ∗ (∃ X, owns (c : Thread nD τ) (st0_7 t) fullShare X))) := by
  simp only [before_0, before_1, before_2, before_3, before_4, before_5, before_6,
    after_0, after_1, after_2, after_3, after_4, after_5, after_6]
  rw [show (datsF m 0 c).Φ t.castSucc = PhiN m (fun _ _ _ _ => True) c t.val from rfl,
    show (datsF m 0 c).Φ t.succ = PhiN m (fun _ _ _ _ => True) c (t.val + 1) from rfl,
    show (datsF m 0 c).owesAt () t.succ = (datsF m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%o, H7⟩⟩
  iapply (body_at m (fun _ _ _ _ => True) c ok (fun _ _ _ => trivial) t d2 o _)
  isplitl [HΦ H0 H1 H2 H3 H4 H5 H6 H7]
  · isplitl [HΦ]; · iexact HΦ
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro ⟨HΦ, H0, H1, H2, H3, H4, H5, H6, ⟨%hx, %sc, %e, -, H7⟩⟩
  isplitl [HΦ]; · iexact HΦ
  isplitl [Ho]; · iexact Ho
  isplitl [H0]; · iexact H0
  isplitl [H1]; · iexact H1
  isplitl [H2]
  · iexists d2; iapply (owns_fill m c t d2); iexact H2
  isplitl [H3]; · iexact H3
  isplitl [H4]; · iexact H4
  isplitl [H5]; · iexact H5
  isplitl [H6]; · iexact H6
  iexists _; iexact H7

/-- The library's body obligation with the result's window forgotten. -/
theorem body_obligation (c : Dev nD) (ok : Ids.Ok (mIds m c)) :
    BodyObligationLoose (datsF m 0 c) (defs₀ (F := F)) 𝒱₀ () Set.univ fgt := fun t => by
  rw [bigSep_W0, bigSep_W0, defs₀_row]
  exact triple_restated (sound_body m c ok t) rfl .rfl fun _ => .rfl

/-- The invariant at the first point, from the region's scratch buffers, -/
theorem phi_first (c : Dev nD) : iprop(emp ∗ Pipeline.scopedRest spec0 c) ⊢ (datsF m 0 c).Φ 0 := by
  rw [show (datsF m 0 c).Φ 0 = PhiN m (fun _ _ _ _ => True) c 0 from rfl]
  iintro ⟨-, H⟩; iapply (phi_intro m (fun _ _ _ _ => True) c); iexact H

/-- and back to them at the last. -/
theorem phi_last (c : Dev nD) : (datsF m 0 c).Φ (Fin.last (cfg0 (F := F)).N)
    ⊢ iprop(emp ∗ Pipeline.ownSems0 (fun k : PEmpty => k.elim) c ∗ Pipeline.scopedRest spec0 c) := by
  rw [show (datsF m 0 c).Φ (Fin.last (cfg0 (F := F)).N) = PhiN m (fun _ _ _ _ => True) c (Fin.last (cfg0 (F := F)).N).val from rfl]
  iintro H
  isplitr; · iempintro
  isplitr; · rw [Pipeline.ownSems0_none]; iempintro
  iapply (phi_exit m (fun _ _ _ _ => True) c _); iexact H

/-- THE FRAME: with the ids sorted and not negative, every weakly fair execution of the kernel ends, with the argument
    arrays unchanged and every semaphore counter at zero. -/
theorem frame_run (hok : ∀ c, Ids.Ok (mIds m c)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_region_kit_forget_quiescent cfgs (datsF m) () (0 : Fin 1) launch0 (Pipeline.OwnSemFacts.none _) EP defs₀ 𝒱₀ fgt m ρ main
    (hbody := fun c => body_obligation m c (hok c)) (hshare := fun c => (datsF m 0 c).share_full fun _ => rfl) (howed := fun _ _ => rfl)
    (G := fun _ => iprop(emp)) (u₀ := u₀ (F := F))
    (hu₀ := by
      iintro H; imodintro
      isplitl [H]
      · iapply (show (ownU (u₀ (F := F)) : sProp 𝕄) ⊢ BI.own (EP (Rounds.initOf (Pipeline.cells (cfgs (F := F)) cellOf_inj) (Pipeline.launchToks (cfgs (F := F)) cellOf_inj))) from BI.Entails.refl _); iexact H
      · rw [show (bigSep (Finset.univ : Finset (Dev nD)) (fun _ => (iprop(emp) : sProp 𝕄))) = BI.emp from bigSep_emp_const _]; iempintro)
    (V := fun c b => m ((c : Thread nD τ).loc b))
    (hmain := fun c Q => by
      simp only [main, Prog.lift, Prog.bind_op, Prog.bind_ret]
      iintro ⟨Hk, Hb⟩; iapply Hk; iexact Hb)
    (hA := fun _ _ => rfl)
    (X := fun _ => iprop(emp)) (Y := fun _ => iprop(emp)) (Z := fun _ => iprop(emp))
    (hX := fun c => by iintro -; imodintro; isplitr <;> iempintro)
    (hin := phi_first m) (hout := phi_last m)
    (QY := fun _ _ => True)
    (hY := fun c s' => by
      iintro ⟨-, -, HSI⟩; imodintro
      isplitr; · ipureintro; trivial
      iexact HSI)
    (hQ := fun s h hz => ⟨fun c => by
      have hw : ∀ w : Fin 8, fgt w = false → (win0 w).isOut = false →
          s.mem ((c.tc : Thread nD τ).loc (Pipeline.arrRef spec0 w)) = m ((c.tc : Thread nD τ).loc (Pipeline.arrRef spec0 w)) := fun w hf hi =>
        ((Pipeline.Dat.toRForget_arrAt_iff (datsF m 0 c) (fgt := fgt) (w := w) hf _ _).mp ((h c).1 w)).trans
          ((datsF m 0 c).arrAt_in w hi _)
      exact ⟨hw 2 rfl rfl, hw 3 rfl rfl, hw 4 rfl rfl, hw 5 rfl rfl, hw 6 rfl rfl, hw 1 rfl rfl, hw 0 rfl rfl⟩, hz⟩)

end Frame

end Cert.Proof.KI

end
-- ==== Proof.KI.Fill.lean ====
/-
  What the scratch buffers hold once the first grid point has filled them, at extended reals: the rescaled hidden states
  of every token, the scales with chunk and token exchanged, and the embedding rows widened. Nothing remains of what the
  buffers held before.
-/
module

public import proofs.«01_k».proof.Proof.KI.Body
public import Idealize.ShloMosaic.Lib.Pointwise

@[expose] public section

set_option maxRecDepth 16384

noncomputable section

namespace Cert.Proof.KI

open Cert.KernelIdeal Cert.KernelIdeal.Gen Cert.Proof
open Idealize.ShloMosaic

/-- The batch of token `k`. -/
def tokB (k : Fin 256) : Fin 2 := ⟨k.val / 128, by omega⟩
/-- The place of token `k` in its sequence. -/
def tokS (k : Fin 256) : Fin 128 := ⟨k.val % 128, by omega⟩

/-- The hidden states, rescaled: token by feature. -/
def HX (xs : S2x128.Idx → Elt Ideal .f32) (xc : S2x128x1024.Idx → Elt Ideal .fp8e4m3) : S256x1024.Idx → Elt Ideal .bf16 := fun y =>
  let b : Fin 2 := tokB (y 0); let s : Fin 128 := tokS (y 0); let d : Fin 1024 := y 1
  ((xc (ix3 b s d) : EReal) * (xs (ix2 b s) : EReal) : EReal)

/-- The scales: chunk by token. -/
def SC (dls : S2x128x16.Idx → Elt Ideal .f32) : S16x256.Idx → Elt Ideal .f32 := fun y =>
  let b : Fin 2 := tokB (y 1); let s : Fin 128 := tokS (y 1); let ch : Fin 16 := y 0
  dls (ix3 b s ch)

/-- The embedding rows, widened. -/
def EM (ec : S256x1024.Idx → Elt Ideal .fp8e5m2) : S256x1024.Idx → Elt Ideal .f32 := fun y => (ec y : EReal)

/-- A put read at an index agrees with `G` there if the payload does inside the window and the buffer does outside. -/
theorem put_at {α : Type} {s : Shape} (x : s.Idx → α) (off size : Fin s.rank → ℕ) (w : ((a : Fin s.rank) → Fin (size a)) → α) (G : s.Idx → α) (y : s.Idx)
    (hw : ∀ h : ∀ a, off a ≤ (y a).val ∧ (y a).val < off a + size a, w (Rect.unitLocal (s := s) (off := off) (size := size) y h) = G y)
    (hx : (¬ ∀ a, off a ≤ (y a).val ∧ (y a).val < off a + size a) → x y = G y) : VecWindow.put x off size w y = G y := by
  unfold VecWindow.put
  by_cases h : ∀ a, off a ≤ (y a).val ∧ (y a).val < off a + size a
  · rw [dif_pos h]; exact hw h
  · rw [dif_neg h]; exact hx h

/-- The first tile's payload at an index. -/
theorem pay5_apply (v : Vec Ideal S1x128 .f32) (w : Vec Ideal S1x128x128 .fp8e4m3) (p q : Fin 128) :
    k0_pay5 (F := Ideal) v w (ix2 p q) = ((w (ix3 0 p q) : EReal) * (v (ix2 0 p) : EReal) : EReal) := by
  pointwise [k0_pay5, k0_pay4]

theorem pay14_apply (v : Vec Ideal S1x128x16 .f32) (p : Fin 16) (q : Fin 128) :
    k0_pay14 (F := Ideal) v (ix2 p q) = v (ix3 0 q p) := by
  pointwise [k0_pay14]

theorem pay3_apply (v : Vec Ideal S256x1024 .fp8e5m2) (p : S256x1024.Idx) :
    k0_pay3 (F := Ideal) v p = (v p : EReal) := by
  pointwise [k0_pay3]

/-- A tile of rescaled hidden states, read at an index inside its window. -/
theorem hx_tile (b C : ℕ) (inb1 : ∀ a, (![b, 0] : Fin 2 → ℕ) a + S1x128.size a ≤ S2x128.size a) (inb2 : ∀ a, (![b, 0, C] : Fin 3 → ℕ) a + S1x128x128.size a ≤ S2x128x1024.size a)
    (xs : S2x128.Idx → Elt Ideal .f32) (xc : S2x128x1024.Idx → Elt Ideal .fp8e4m3) (y : S256x1024.Idx)
    (h : ∀ a, (![128 * b, C] : Fin 2 → ℕ) a ≤ (y a).val ∧ (y a).val < (![128 * b, C] : Fin 2 → ℕ) a + S128x128.size a) :
    k0_pay5 (F := Ideal) (VecWindow.window (s := S2x128) xs ![b, 0] S1x128.size inb1) (VecWindow.window (s := S2x128x1024) xc ![b, 0, C] S1x128x128.size inb2)
      (Rect.unitLocal (s := S256x1024) (off := ![128 * b, C]) (size := S128x128.size) y h) = HX xs xc y := by
  have h0 : 128 * b ≤ (y 0).val ∧ (y 0).val < 128 * b + 128 := h 0
  have h1 : C ≤ (y 1).val ∧ (y 1).val < C + 128 := h 1
  refine (congrArg _ (eq_ix2 (n0 := 128) (n1 := 128) (Rect.unitLocal (s := S256x1024) (off := ![128 * b, C]) (size := S128x128.size) y h))).trans
    ((pay5_apply _ _ _ _).trans ?_)
  unfold HX VecWindow.window
  refine congrArg₂ (fun a b : EReal => a * b) (congrArg xc ?_) (congrArg xs ?_)
  · funext a; fin_cases a <;> refine Fin.ext ?_
    · show b + 1 * 0 = (y 0).val / 128; omega
    · show 0 + 1 * ((y 0).val - 128 * b) = (y 0).val % 128; omega
    · show C + 1 * ((y 1).val - C) = (y 1).val; omega
  · funext a; fin_cases a <;> refine Fin.ext ?_
    · show b + 1 * 0 = (y 0).val / 128; omega
    · show 0 + 1 * ((y 0).val - 128 * b) = (y 0).val % 128; omega

/-- The hidden-state scratch, once filled. -/
theorem hxFill_eq (xs : S2x128.Idx → Elt Ideal .f32) (xc : S2x128x1024.Idx → Elt Ideal .fp8e4m3) (hx : S256x1024.Idx → Elt Ideal .bf16) :
    hxFill xs xc hx = HX xs xc := by
  funext y
  unfold hxFill hx4 hx3 hx2 hx1
  refine put_at _ _ _ _ _ y (hx_tile 1 896 _ _ xs xc y) fun n1 => ?_
  refine put_at _ _ _ _ _ y (hx_tile 1 768 _ _ xs xc y) fun n2 => ?_
  refine put_at _ _ _ _ _ y (hx_tile 1 640 _ _ xs xc y) fun n3 => ?_
  refine put_at _ _ _ _ _ y (hx_tile 1 512 _ _ xs xc y) fun n4 => ?_
  refine put_at _ _ _ _ _ y (hx_tile 1 384 _ _ xs xc y) fun n5 => ?_
  refine put_at _ _ _ _ _ y (hx_tile 1 256 _ _ xs xc y) fun n6 => ?_
  refine put_at _ _ _ _ _ y (hx_tile 1 128 _ _ xs xc y) fun n7 => ?_
  refine put_at _ _ _ _ _ y (hx_tile 1 0 _ _ xs xc y) fun n8 => ?_
  refine put_at _ _ _ _ _ y (hx_tile 0 896 _ _ xs xc y) fun n9 => ?_
  refine put_at _ _ _ _ _ y (hx_tile 0 768 _ _ xs xc y) fun n10 => ?_
  refine put_at _ _ _ _ _ y (hx_tile 0 640 _ _ xs xc y) fun n11 => ?_
  refine put_at _ _ _ _ _ y (hx_tile 0 512 _ _ xs xc y) fun n12 => ?_
  refine put_at _ _ _ _ _ y (hx_tile 0 384 _ _ xs xc y) fun n13 => ?_
  refine put_at _ _ _ _ _ y (hx_tile 0 256 _ _ xs xc y) fun n14 => ?_
  refine put_at _ _ _ _ _ y (hx_tile 0 128 _ _ xs xc y) fun n15 => ?_
  refine put_at _ _ _ _ _ y (hx_tile 0 0 _ _ xs xc y) fun n16 => ?_
  exfalso
  have k : ∀ b C : ℕ, (¬ ∀ a, (![b, C] : Fin 2 → ℕ) a ≤ (y a).val ∧ (y a).val < (![b, C] : Fin 2 → ℕ) a + S128x128.size a)
      → ¬ ((b ≤ (y 0).val ∧ (y 0).val < b + 128) ∧ (C ≤ (y 1).val ∧ (y 1).val < C + 128)) := fun b C n h =>
    n (fun a => by fin_cases a <;> [exact h.1; exact h.2])
  have m1 := k _ _ n1; have m2 := k _ _ n2; have m3 := k _ _ n3; have m4 := k _ _ n4
  have m5 := k _ _ n5; have m6 := k _ _ n6; have m7 := k _ _ n7; have m8 := k _ _ n8
  have m9 := k _ _ n9; have m10 := k _ _ n10; have m11 := k _ _ n11; have m12 := k _ _ n12
  have m13 := k _ _ n13; have m14 := k _ _ n14; have m15 := k _ _ n15; have m16 := k _ _ n16
  clear n1 n2 n3 n4 n5 n6 n7 n8 n9 n10 n11 n12 n13 n14 n15 n16 k
  have hy0 : (y 0).val < 256 := (y 0).isLt
  have hy1 : (y 1).val < 1024 := (y 1).isLt
  generalize (y 0).val = a at *
  generalize (y 1).val = b at *
  rcases Nat.lt_or_ge a 128 with ha | ha
  · clear m1 m2 m3 m4 m5 m6 m7 m8; omega
  · clear m9 m10 m11 m12 m13 m14 m15 m16; omega

/-- Half the scale scratch, read at an index inside its window. -/
theorem sc_tile (b : ℕ) (inb : ∀ a, (![b, 0, 0] : Fin 3 → ℕ) a + S1x128x16.size a ≤ S2x128x16.size a)
    (dls : S2x128x16.Idx → Elt Ideal .f32) (y : S16x256.Idx)
    (h : ∀ a, (![0, 128 * b] : Fin 2 → ℕ) a ≤ (y a).val ∧ (y a).val < (![0, 128 * b] : Fin 2 → ℕ) a + S16x128.size a) :
    k0_pay14 (F := Ideal) (VecWindow.window (s := S2x128x16) dls ![b, 0, 0] S1x128x16.size inb)
      (Rect.unitLocal (s := S16x256) (off := ![0, 128 * b]) (size := S16x128.size) y h) = SC dls y := by
  have h1 : 128 * b ≤ (y 1).val ∧ (y 1).val < 128 * b + 128 := h 1
  refine (congrArg _ (eq_ix2 (n0 := 16) (n1 := 128) (Rect.unitLocal (s := S16x256) (off := ![0, 128 * b]) (size := S16x128.size) y h))).trans
    ((pay14_apply _ _ _).trans ?_)
  unfold SC VecWindow.window
  refine congrArg dls ?_
  funext a; fin_cases a <;> refine Fin.ext ?_
  · show b + 1 * 0 = (y 1).val / 128; omega
  · show 0 + 1 * ((y 1).val - 128 * b) = (y 1).val % 128; omega
  · show 0 + 1 * ((y 0).val - 0) = (y 0).val; omega

/-- The scale scratch, once filled. -/
theorem scFill_eq (dls : S2x128x16.Idx → Elt Ideal .f32) (sc : S16x256.Idx → Elt Ideal .f32) : scFill dls sc = SC dls := by
  funext y
  unfold scFill
  refine put_at _ _ _ _ _ y (sc_tile 1 _ dls y) fun n1 => ?_
  refine put_at _ _ _ _ _ y (sc_tile 0 _ dls y) fun n2 => ?_
  exfalso
  have hy0 : (y 0).val < 16 := (y 0).isLt
  have hy1 : (y 1).val < 256 := (y 1).isLt
  rcases Nat.lt_or_ge (y 1).val 128 with hb | hb
  · refine n2 fun a => ?_
    fin_cases a
    · show 0 ≤ (y 0).val ∧ (y 0).val < 0 + 16; omega
    · show 0 ≤ (y 1).val ∧ (y 1).val < 0 + 128; omega
  · refine n1 fun a => ?_
    fin_cases a
    · show 0 ≤ (y 0).val ∧ (y 0).val < 0 + 16; omega
    · show 128 ≤ (y 1).val ∧ (y 1).val < 128 + 128; omega

/-- The embedding scratch, once filled. -/
theorem eFill_eq (ec : S256x1024.Idx → Elt Ideal .fp8e5m2) (e : S256x1024.Idx → Elt Ideal .f32) : eFill ec e = EM ec := by
  funext y
  unfold eFill
  refine put_at _ _ _ _ _ y (fun h => ?_) fun n => ?_
  · rw [pay3_apply]
    unfold EM VecWindow.window
    refine congrArg ec ?_
    funext a; fin_cases a <;> refine Fin.ext ?_
    · show 0 + 1 * ((y 0).val - 0) = (y 0).val; omega
    · show 0 + 1 * ((y 1).val - 0) = (y 1).val; omega
  · have hy0 : (y 0).val < 256 := (y 0).isLt
    have hy1 : (y 1).val < 1024 := (y 1).isLt
    refine absurd (fun a => ?_) n
    fin_cases a
    · show 0 ≤ (y 0).val ∧ (y 0).val < 0 + 256; omega
    · show 0 ≤ (y 1).val ∧ (y 1).val < 0 + 1024; omega

end Cert.Proof.KI

end
-- ==== Proof.KI.Tiles.lean ====
/-
  The four tiles of a block before the loop, at extended reals: an entry is the sum over the tokens of gradient times
  scale times hidden state, with the scale of the chunk its row lies in.
-/
module

public import proofs.«01_k».proof.Proof.KI.Fill

@[expose] public section

set_option maxRecDepth 16384

noncomputable section

namespace Cert.Proof.KI

open Cert.KernelIdeal Cert.KernelIdeal.Gen Cert.Proof
open Idealize.ShloMosaic

/-- An entry of the head's part: the sum over both batches' tokens of gradient times scale times hidden state, of a row whose
    gradient is `g` and whose chunk is `ch`, at feature `d`. -/
def headAt (g : Fin 2 → Fin 128 → EReal) (dls : S2x128x16.Idx → Elt Ideal .f32) (xs : S2x128.Idx → Elt Ideal .f32) (xc : S2x128x1024.Idx → Elt Ideal .fp8e4m3)
    (ch : Fin 16) (d : Fin 1024) : EReal :=
  (∑ s : Fin 128, g 0 s * (dls (ix3 0 s ch) : EReal) * ((xc (ix3 0 s d) : EReal) * (xs (ix2 0 s) : EReal)))
    + ∑ s : Fin 128, g 1 s * (dls (ix3 1 s ch) : EReal) * ((xc (ix3 1 s d) : EReal) * (xs (ix2 1 s) : EReal))

/-- The word of a tile's first row. -/
def rowW (a o : BitVec 32) : BitVec 32 := Scalar.addi (Scalar.muli a 1024#32) o

/-- The word of the chunk that a tile's first row lies in, at most 15. -/
def c0W (a o : BitVec 32) : BitVec 32 :=
  Scalar.minsi (Scalar.select
    (Scalar.andi (Scalar.cmpi .ne (Scalar.subi (Scalar.extui (Scalar.cmpi .sgt (rowW a o) 0#32)) (Scalar.extui (Scalar.cmpi .slt (rowW a o) 0#32)) : BitVec 32)
        (Scalar.subi (Scalar.extui (Scalar.cmpi .sgt 9496#32 0#32)) (Scalar.extui (Scalar.cmpi .slt 9496#32 0#32))))
      (Scalar.cmpi .ne (Scalar.remsi (rowW a o) 9496#32) 0#32))
    (Scalar.subi (Scalar.divsi (rowW a o) 9496#32) 1#32) (Scalar.divsi (rowW a o) 9496#32)) 15#32

/-- The word of the row within a tile where the next chunk starts. -/
def splitW (a o : BitVec 32) : BitVec 32 := Scalar.subi (Scalar.muli (Scalar.addi (c0W a o) 1#32) 9496#32) (rowW a o)

/-- The word of the next chunk, at most 15. -/
def c1W (a o : BitVec 32) : BitVec 32 := Scalar.minsi (Scalar.addi (c0W a o) 1#32) 15#32

/-- What the chunk words hold, for every tile that starts inside the array. -/
theorem words_ok : ∀ n : Fin 149, ∀ j : Fin 4, 1024 * n.val + 256 * j.val < 151936 →
    (c0W (BitVec.ofNat 32 n.val) (BitVec.ofNat 32 (256 * j.val))).toNat = (1024 * n.val + 256 * j.val) / 9496
    ∧ (c1W (BitVec.ofNat 32 n.val) (BitVec.ofNat 32 (256 * j.val))).toNat = min ((1024 * n.val + 256 * j.val) / 9496 + 1) 15
    ∧ (splitW (BitVec.ofNat 32 n.val) (BitVec.ofNat 32 (256 * j.val))).toNat
        = ((1024 * n.val + 256 * j.val) / 9496 + 1) * 9496 - (1024 * n.val + 256 * j.val) := by
  decide +kernel

/-- A tile in one form: the first chunk's scales above the split, the next chunk's from it on. -/
def tileG (i : grid0.Coords) (j : Fin 4) (inb0 : ∀ a, (![0, 0, 256 * j.val] : Fin 3 → ℕ) a + S1x128x256.size a ≤ S2x128x1024.size a)
    (inb1 : ∀ a, (![1, 0, 256 * j.val] : Fin 3 → ℕ) a + S1x128x256.size a ≤ S2x128x1024.size a)
    (dl : S2x128x1024.Idx → Elt Ideal .fp8e5m2) (hx : S256x1024.Idx → Elt Ideal .bf16) (sc : S16x256.Idx → Elt Ideal .f32) : FVec Ideal S256x1024 .f32 :=
  k0_pay29 (rowW (BitVec.ofNat 32 (i 0).val) (BitVec.ofNat 32 (256 * j.val))) (c0W (BitVec.ofNat 32 (i 0).val) (BitVec.ofNat 32 (256 * j.val))) 1#32
    (VecWindow.window (s := S16x256) sc (k0_off1 i (BitVec.ofNat 32 (256 * j.val))) S1x256.size (k0_off1_inb i j))
    (VecWindow.window (s := S16x256) sc (k0_off2 i (BitVec.ofNat 32 (256 * j.val))) S1x256.size (k0_off2_inb i j))
    (VecWindow.window (s := S2x128x1024) dl ![0, 0, 256 * j.val] S1x128x256.size inb0)
    (VecWindow.window (s := S2x128x1024) dl ![1, 0, 256 * j.val] S1x128x256.size inb1)
    (VecWindow.window (s := S256x1024) hx ![0, 0] S256x1024.size inb_S256x1024_S256x1024_0_0)

theorem tile0_eq (i : grid0.Coords) (dl : S2x128x1024.Idx → Elt Ideal .fp8e5m2) (hx : S256x1024.Idx → Elt Ideal .bf16) (sc : S16x256.Idx → Elt Ideal .f32) :
    tile0 i dl hx sc = tileG i 0 inb_S2x128x1024_S1x128x256_0_0_0 inb_S2x128x1024_S1x128x256_1_0_0 dl hx sc := rfl

theorem tile1_eq (i : grid0.Coords) (dl : S2x128x1024.Idx → Elt Ideal .fp8e5m2) (hx : S256x1024.Idx → Elt Ideal .bf16) (sc : S16x256.Idx → Elt Ideal .f32) :
    tile1 i dl hx sc = tileG i 1 inb_S2x128x1024_S1x128x256_0_0_256 inb_S2x128x1024_S1x128x256_1_0_256 dl hx sc := rfl

theorem tile2_eq (i : grid0.Coords) (dl : S2x128x1024.Idx → Elt Ideal .fp8e5m2) (hx : S256x1024.Idx → Elt Ideal .bf16) (sc : S16x256.Idx → Elt Ideal .f32) :
    tile2 i dl hx sc = tileG i 2 inb_S2x128x1024_S1x128x256_0_0_512 inb_S2x128x1024_S1x128x256_1_0_512 dl hx sc := rfl

theorem tile3_eq (i : grid0.Coords) (dl : S2x128x1024.Idx → Elt Ideal .fp8e5m2) (hx : S256x1024.Idx → Elt Ideal .bf16) (sc : S16x256.Idx → Elt Ideal .f32) :
    tile3 i dl hx sc = tileG i 3 inb_S2x128x1024_S1x128x256_0_0_768 inb_S2x128x1024_S1x128x256_1_0_768 dl hx sc := rfl

/-- A signed comparison of a small number with a small word. -/
theorem slt_small (r : ℕ) (w : BitVec 32) (hr : r < 256) (hw : w.toNat < 2 ^ 31) :
    IntOp.cmpi .slt (BitVec.ofNat 32 r) w = if r < w.toNat then 1#1 else 0#1 := by
  have e : BitVec.slt (BitVec.ofNat 32 r) w = decide (r < w.toNat) := by
    rw [BitVec.slt_eq_decide]
    refine decide_eq_decide.2 ?_
    rw [BitVec.toInt_eq_toNat_cond, BitVec.toInt_eq_toNat_cond, BitVec.toNat_ofNat, Nat.mod_eq_of_lt (by omega)]
    split <;> split <;> omega
  show BitVec.ofBool (BitVec.slt (BitVec.ofNat 32 r) w) = _
  rw [e]
  by_cases h : r < w.toNat <;> simp [h]

/-- The scale a row of a tile is multiplied by is that of the row's own chunk. -/
theorem scale_eq (i : grid0.Coords) (j : Fin 4) (sc : S16x256.Idx → Elt Ideal .f32) (r : Fin 256) (hin : 1024 * (i 0).val + 256 * j.val + r.val < 151936) (k : Fin 256) :
    (Scalar.select (IntOp.cmpi .slt (BitVec.ofNat 32 r.val) (splitW (BitVec.ofNat 32 (i 0).val) (BitVec.ofNat 32 (256 * j.val))))
      (VecWindow.window (s := S16x256) sc (k0_off1 i (BitVec.ofNat 32 (256 * j.val))) S1x256.size (k0_off1_inb i j) (ix2 0 k))
      (VecWindow.window (s := S16x256) sc (k0_off2 i (BitVec.ofNat 32 (256 * j.val))) S1x256.size (k0_off2_inb i j) (ix2 0 k)) : EReal)
      = sc (ix2 ⟨(1024 * (i 0).val + 256 * j.val + r.val) / 9496, by omega⟩ k) := by
  have hn : (i 0).val < 149 := (i 0).isLt
  obtain ⟨h0, h1, h2⟩ := words_ok ⟨(i 0).val, hn⟩ j (by show 1024 * (i 0).val + 256 * j.val < 151936; omega)
  simp only at h0 h1 h2
  have hr := r.isLt
  rw [slt_small r.val _ hr (by rw [h2]; omega)]
  by_cases hc : r.val < (splitW (BitVec.ofNat 32 (i 0).val) (BitVec.ofNat 32 (256 * j.val))).toNat
  · rw [if_pos hc]
    rw [h2] at hc
    show VecWindow.window (s := S16x256) sc _ S1x256.size _ (ix2 0 k) = _
    unfold VecWindow.window
    refine congrArg sc ?_
    funext a; fin_cases a <;> refine Fin.ext ?_
    · show (c0W (BitVec.ofNat 32 (i 0).val) (BitVec.ofNat 32 (256 * j.val))).toNat + 1 * 0 = (1024 * (i 0).val + 256 * j.val + r.val) / 9496
      rw [h0]; omega
    · show 0 + 1 * k.val = k.val; omega
  · rw [if_neg hc]
    rw [h2] at hc
    show VecWindow.window (s := S16x256) sc _ S1x256.size _ (ix2 0 k) = _
    unfold VecWindow.window
    refine congrArg sc ?_
    funext a; fin_cases a <;> refine Fin.ext ?_
    · show (c1W (BitVec.ofNat 32 (i 0).val) (BitVec.ofNat 32 (256 * j.val))).toNat + 1 * 0 = (1024 * (i 0).val + 256 * j.val + r.val) / 9496
      rw [h1]; omega
    · show 0 + 1 * k.val = k.val; omega

/-- A tile's product at an index, as two sums over the batches' tokens. -/
theorem pay29_apply (w c : BitVec 32) (s1 s2 : Vec Ideal S1x256 .f32) (d0 d1 : Vec Ideal S1x128x256 .fp8e5m2) (h : Vec Ideal S256x1024 .bf16) (r : Fin 256) (d : Fin 1024) :
    (k0_pay29 (F := Ideal) w c 1#32 s1 s2 d0 d1 h (ix2 r d) : EReal)
      = (∑ x : Fin 128, (d0 (ix3 0 x r) : EReal) * (Scalar.select (IntOp.cmpi CmpIPredicate.slt (BitVec.ofNat 32 r.val)
              (Scalar.subi (Scalar.muli (Scalar.addi c 1#32) 9496#32) w)) (s1 (ix2 0 ⟨x.val, by omega⟩)) (s2 (ix2 0 ⟨x.val, by omega⟩)) : EReal)
            * (h (ix2 ⟨x.val, by omega⟩ d) : EReal))
        + ∑ x : Fin 128, (d1 (ix3 0 x r) : EReal) * (Scalar.select (IntOp.cmpi CmpIPredicate.slt (BitVec.ofNat 32 r.val)
              (Scalar.subi (Scalar.muli (Scalar.addi c 1#32) 9496#32) w)) (s1 (ix2 0 ⟨128 + x.val, by omega⟩)) (s2 (ix2 0 ⟨128 + x.val, by omega⟩)) : EReal)
            * (h (ix2 ⟨128 + x.val, by omega⟩ d) : EReal) := by
  pointwise [k0_pay29]

/-- An entry of a tile whose row lies inside the array. -/
theorem tileG_apply (i : grid0.Coords) (j : Fin 4) (inb0 : ∀ a, (![0, 0, 256 * j.val] : Fin 3 → ℕ) a + S1x128x256.size a ≤ S2x128x1024.size a)
    (inb1 : ∀ a, (![1, 0, 256 * j.val] : Fin 3 → ℕ) a + S1x128x256.size a ≤ S2x128x1024.size a)
    (dl : S2x128x1024.Idx → Elt Ideal .fp8e5m2) (dls : S2x128x16.Idx → Elt Ideal .f32) (xs : S2x128.Idx → Elt Ideal .f32) (xc : S2x128x1024.Idx → Elt Ideal .fp8e4m3)
    (r : Fin 256) (d : Fin 1024) (hin : 1024 * (i 0).val + 256 * j.val + r.val < 151936) :
    (tileG i j inb0 inb1 dl (HX xs xc) (SC dls) (ix2 r d) : EReal)
      = headAt (fun b s => dl (ix3 b s ⟨256 * j.val + r.val, by omega⟩)) dls xs xc ⟨(1024 * (i 0).val + 256 * j.val + r.val) / 9496, by omega⟩ d := by
  unfold tileG
  rw [pay29_apply]
  unfold headAt
  refine congrArg₂ (fun a b : EReal => a + b) (Finset.sum_congr rfl fun x _ => ?_) (Finset.sum_congr rfl fun x _ => ?_)
  · refine congrArg₂ (fun a b : EReal => a * b) (congrArg₂ (fun a b : EReal => a * b) ?_ ((scale_eq i j (SC dls) r hin ⟨x.val, by omega⟩).trans ?_)) ?_
    · unfold VecWindow.window
      refine congrArg dl ?_
      funext a; fin_cases a <;> refine Fin.ext ?_
      · rfl
      · show 0 + 1 * x.val = x.val; omega
      · show 256 * j.val + 1 * r.val = 256 * j.val + r.val; omega
    · unfold SC
      refine congrArg dls ?_
      funext a; fin_cases a <;> refine Fin.ext ?_
      · show x.val / 128 = 0; omega
      · show x.val % 128 = x.val; omega
      · rfl
    · unfold VecWindow.window HX
      refine congrArg₂ (fun a b : EReal => a * b) (congrArg xc ?_) (congrArg xs ?_)
      · funext a; fin_cases a <;> refine Fin.ext ?_
        · show (0 + 1 * x.val) / 128 = 0; omega
        · show (0 + 1 * x.val) % 128 = x.val; omega
        · show 0 + 1 * d.val = d.val; omega
      · funext a; fin_cases a <;> refine Fin.ext ?_
        · show (0 + 1 * x.val) / 128 = 0; omega
        · show (0 + 1 * x.val) % 128 = x.val; omega
  · refine congrArg₂ (fun a b : EReal => a * b) (congrArg₂ (fun a b : EReal => a * b) ?_ ((scale_eq i j (SC dls) r hin ⟨128 + x.val, by omega⟩).trans ?_)) ?_
    · unfold VecWindow.window
      refine congrArg dl ?_
      funext a; fin_cases a <;> refine Fin.ext ?_
      · rfl
      · show 0 + 1 * x.val = x.val; omega
      · show 256 * j.val + 1 * r.val = 256 * j.val + r.val; omega
    · unfold SC
      refine congrArg dls ?_
      funext a; fin_cases a <;> refine Fin.ext ?_
      · show (128 + x.val) / 128 = 1; omega
      · show (128 + x.val) % 128 = x.val; omega
      · rfl
    · unfold VecWindow.window HX
      refine congrArg₂ (fun a b : EReal => a * b) (congrArg xc ?_) (congrArg xs ?_)
      · funext a; fin_cases a <;> refine Fin.ext ?_
        · show (0 + 1 * (128 + x.val)) / 128 = 1; omega
        · show (0 + 1 * (128 + x.val)) % 128 = x.val; omega
        · show 0 + 1 * d.val = d.val; omega
      · funext a; fin_cases a <;> refine Fin.ext ?_
        · show (0 + 1 * (128 + x.val)) / 128 = 1; omega
        · show (0 + 1 * (128 + x.val)) % 128 = x.val; omega

/-- An entry of the block before the loop, at a row inside the array: the head's part. -/
theorem tiles_apply (i : grid0.Coords) (dl : S2x128x1024.Idx → Elt Ideal .fp8e5m2) (dls : S2x128x16.Idx → Elt Ideal .f32) (xs : S2x128.Idx → Elt Ideal .f32)
    (xc : S2x128x1024.Idx → Elt Ideal .fp8e4m3) (o : S1024x1024.Idx → Elt Ideal .f32) (r : Fin 1024) (d : Fin 1024) (hin : 1024 * (i 0).val + r.val < 151936) :
    (tiles i dl (HX xs xc) (SC dls) o (ix2 r d) : EReal)
      = headAt (fun b s => dl (ix3 b s r)) dls xs xc ⟨(1024 * (i 0).val + r.val) / 9496, by omega⟩ d := by
  have key : ∀ (j : Fin 4) (inb0) (inb1) (h : ∀ a, (![256 * j.val, 0] : Fin 2 → ℕ) a ≤ ((ix2 r d : S1024x1024.Idx) a).val
        ∧ ((ix2 r d : S1024x1024.Idx) a).val < (![256 * j.val, 0] : Fin 2 → ℕ) a + S256x1024.size a),
      (tileG i j inb0 inb1 dl (HX xs xc) (SC dls) (Rect.unitLocal (s := S1024x1024) (off := ![256 * j.val, 0]) (size := S256x1024.size) (ix2 r d) h) : EReal)
        = headAt (fun b s => dl (ix3 b s r)) dls xs xc ⟨(1024 * (i 0).val + r.val) / 9496, by omega⟩ d := fun j inb0 inb1 h => by
    have h0 : 256 * j.val ≤ r.val ∧ r.val < 256 * j.val + 256 := h 0
    have e : Rect.unitLocal (s := S1024x1024) (off := ![256 * j.val, 0]) (size := S256x1024.size) (ix2 r d) h = (ix2 ⟨r.val - 256 * j.val, by omega⟩ d : S256x1024.Idx) := by
      funext a; fin_cases a <;> rfl
    rw [e, tileG_apply i j inb0 inb1 dl dls xs xc ⟨r.val - 256 * j.val, by omega⟩ d (by show 1024 * (i 0).val + 256 * j.val + (r.val - 256 * j.val) < 151936; omega)]
    have er : (⟨256 * j.val + (r.val - 256 * j.val), by omega⟩ : Fin 1024) = r := Fin.ext (by show 256 * j.val + (r.val - 256 * j.val) = r.val; omega)
    have ec : (⟨(1024 * (i 0).val + 256 * j.val + (r.val - 256 * j.val)) / 9496, by omega⟩ : Fin 16) = ⟨(1024 * (i 0).val + r.val) / 9496, by omega⟩ :=
      Fin.ext (by show (1024 * (i 0).val + 256 * j.val + (r.val - 256 * j.val)) / 9496 = (1024 * (i 0).val + r.val) / 9496
                  rw [show 1024 * (i 0).val + 256 * j.val + (r.val - 256 * j.val) = 1024 * (i 0).val + r.val by omega])
    simp only [er, ec]
  unfold tiles
  rw [tile0_eq, tile1_eq, tile2_eq, tile3_eq]
  refine put_at _ _ _ _ (fun _ => headAt (fun b s => dl (ix3 b s r)) dls xs xc ⟨(1024 * (i 0).val + r.val) / 9496, by omega⟩ d) _ (key 3 _ _) fun n3 => ?_
  refine put_at _ _ _ _ (fun _ => headAt (fun b s => dl (ix3 b s r)) dls xs xc ⟨(1024 * (i 0).val + r.val) / 9496, by omega⟩ d) _ (key 2 _ _) fun n2 => ?_
  refine put_at _ _ _ _ (fun _ => headAt (fun b s => dl (ix3 b s r)) dls xs xc ⟨(1024 * (i 0).val + r.val) / 9496, by omega⟩ d) _ (key 1 _ _) fun n1 => ?_
  refine put_at _ _ _ _ (fun _ => headAt (fun b s => dl (ix3 b s r)) dls xs xc ⟨(1024 * (i 0).val + r.val) / 9496, by omega⟩ d) _ (key 0 _ _) fun n0 => ?_
  exfalso
  have k : ∀ b : ℕ, (¬ ∀ a, (![b, 0] : Fin 2 → ℕ) a ≤ ((ix2 r d : S1024x1024.Idx) a).val ∧ ((ix2 r d : S1024x1024.Idx) a).val < (![b, 0] : Fin 2 → ℕ) a + S256x1024.size a)
      → ¬ (b ≤ r.val ∧ r.val < b + 256) := fun b n h =>
    n (fun a => by
      fin_cases a
      · exact h
      · exact ⟨Nat.zero_le _, by show d.val < 0 + 1024; omega⟩)
  have m0 := k _ n0; have m1 := k _ n1; have m2 := k _ n2; have m3 := k _ n3
  have := r.isLt
  omega

end Cert.Proof.KI

end
-- ==== Proof.KI.LoopVal.lean ====
/-
  The loop over the ids, at extended reals: an entry of the block gains the scaled embedding rows of exactly the ids that
  name its row.
-/
module

public import proofs.«01_k».proof.Proof.KI.Tiles

@[expose] public section

set_option maxRecDepth 16384

noncomputable section

namespace Cert.Proof.KI

open Cert.KernelIdeal Cert.KernelIdeal.Gen Cert.Proof
open Idealize.ShloMosaic

/-- What the id at position `q` adds to the entry of row `v` at feature `d`: its scaled embedding row if it names `v`, else nothing. -/
def embTerm (ids : S256.Idx → BitVec 32) (es : S256.Idx → Elt Ideal .f32) (e : S256x1024.Idx → Elt Ideal .f32) (v : ℕ) (d : Fin 1024) (q : ℕ) : EReal :=
  if h : q < 256 then if Ids.idn ids q = v then (e (ix2 ⟨q, h⟩ d) : EReal) * (es (ix1 ⟨q, h⟩) : EReal) else 0 else 0

/-- The payload of a trip at an index. -/
theorem pay2_apply (v1 v2 : Vec Ideal S1x1024 .f32) (w : Elt Ideal .f32) (d : Fin 1024) :
    (k0_pay2 (F := Ideal) v1 v2 w (ix2 0 d) : EReal) = (v1 (ix2 0 d) : EReal) + (v2 (ix2 0 d) : EReal) * (w : EReal) := by
  pointwise [k0_pay2]

/-- One trip at an entry of the block. -/
theorem oStep_apply (i : grid0.Coords) (ids : S256.Idx → BitVec 32) (es : S256.Idx → Elt Ideal .f32) (e : S256x1024.Idx → Elt Ideal .f32) (j : ℕ) (hj : j < 256)
    (hlo : base i ≤ Ids.idn ids j) (hhi : Ids.idn ids j < base i + 1024) (o : S1024x1024.Idx → Elt Ideal .f32) (r d : Fin 1024) :
    (oStep (F := Ideal) i ids es e j o (ix2 r d) : EReal) = (o (ix2 r d) : EReal) + embTerm ids es e (base i + r.val) d j := by
  have h2 : k0_chk2 (BitVec.ofNat 32 j) := chk2_ok j hj
  have hw : VecWindow.window (s := S256) ids (k0_off4 (BitVec.ofNat 32 j)) S1.size h2.1 one = ids (Ids.at1 j hj) :=
    window_at ids _ _ j (off4_eq j hj.le) hj
  have hn : (ids (Ids.at1 j hj)).toNat = Ids.idn ids j := (Ids.idn_of_lt ids j hj).symm
  have h3 : k0_chk3 i (VecWindow.window (s := S256) ids (k0_off4 (BitVec.ofNat 32 j)) S1.size h2.1 one) := by
    rw [hw]; exact chk3_ok i _ (by omega) (by omega)
  have ho : k0_off5 i (VecWindow.window (s := S256) ids (k0_off4 (BitVec.ofNat 32 j)) S1.size h2.1 one) 0 = Ids.idn ids j - base i := by
    rw [hw, off5_eq i _ (by omega), hn]
  have ho1 : k0_off5 i (VecWindow.window (s := S256) ids (k0_off4 (BitVec.ofNat 32 j)) S1.size h2.1 one) 1 = 0 := rfl
  unfold oStep
  rw [dif_pos h2, dif_pos h3]
  suffices key : ∀ (off : Fin 2 → ℕ) (inb : ∀ a, off a + S1x1024.size a ≤ S1024x1024.size a), off 0 = Ids.idn ids j - base i → off 1 = 0 →
      (VecWindow.put o off S1x1024.size (k0_pay2 (F := Ideal) (VecWindow.window (s := S1024x1024) o off S1x1024.size inb)
        (VecWindow.window (s := S256x1024) e (k0_off6 (BitVec.ofNat 32 j)) S1x1024.size h2.2.1)
        (VecWindow.window (s := S256) es (k0_off7 (BitVec.ofNat 32 j)) S1.size h2.2.2 one)) (ix2 r d) : EReal)
        = (o (ix2 r d) : EReal) + embTerm ids es e (base i + r.val) d j from key _ h3 ho ho1
  clear ho ho1 h3
  intro off inb ho ho1
  unfold VecWindow.put
  unfold embTerm
  rw [dif_pos hj]
  by_cases hv : Ids.idn ids j = base i + r.val
  · rw [if_pos hv]
    have hin : ∀ a, off a ≤ ((ix2 r d : S1024x1024.Idx) a).val ∧ ((ix2 r d : S1024x1024.Idx) a).val < off a + S1x1024.size a := fun a => by
      fin_cases a
      · show off 0 ≤ r.val ∧ r.val < off 0 + 1; omega
      · show off 1 ≤ d.val ∧ d.val < off 1 + 1024; omega
    rw [dif_pos hin]
    have ey : Rect.unitLocal (s := S1024x1024) (off := off) (size := S1x1024.size) (ix2 r d) hin = (ix2 0 d : S1x1024.Idx) := by
      funext a; fin_cases a <;> refine Fin.ext ?_
      · show r.val - off 0 = 0; omega
      · show d.val - off 1 = d.val; omega
    rw [ey, pay2_apply]
    refine congrArg₂ (fun a b : EReal => a + b) ?_ (congrArg₂ (fun a b : EReal => a * b) ?_ ?_)
    · unfold VecWindow.window
      refine congrArg o ?_
      funext a; fin_cases a <;> refine Fin.ext ?_
      · show off 0 + 1 * 0 = r.val; omega
      · show off 1 + 1 * d.val = d.val; omega
    · unfold VecWindow.window
      refine congrArg e ?_
      funext a; fin_cases a <;> refine Fin.ext ?_
      · show k0_off6 (BitVec.ofNat 32 j) 0 + 1 * 0 = j; rw [off6_eq j hj.le]; omega
      · show 0 + 1 * d.val = d.val; omega
    · refine (window_at es _ _ j (off7_eq j hj.le) hj).trans (congrArg es ?_)
      funext a; fin_cases a; rfl
  · rw [if_neg hv, add_zero]
    refine dif_neg fun h => hv ?_
    have h0 : off 0 ≤ r.val ∧ r.val < off 0 + 1 := h 0
    omega

/-- Several trips at an entry of the block. -/
theorem oFrom_apply (i : grid0.Coords) (ids : S256.Idx → BitVec 32) (es : S256.Idx → Elt Ideal .f32) (e : S256x1024.Idx → Elt Ideal .f32) (r d : Fin 1024) (k : ℕ) :
    ∀ (j : ℕ) (o : S1024x1024.Idx → Elt Ideal .f32), (∀ q, j ≤ q → q < j + k → q < 256 ∧ base i ≤ Ids.idn ids q ∧ Ids.idn ids q < base i + 1024) →
      (oFrom (F := Ideal) i ids es e j k o (ix2 r d) : EReal) = (o (ix2 r d) : EReal) + ∑ q ∈ Finset.Ico j (j + k), embTerm ids es e (base i + r.val) d q := by
  induction k with
  | zero => intro j o _; rw [Nat.add_zero, Finset.Ico_self, Finset.sum_empty, add_zero]; rfl
  | succ k ih =>
    intro j o h
    obtain ⟨hj, hlo, hhi⟩ := h j le_rfl (by omega)
    have e1 := ih (j + 1) (oStep i ids es e j o) (fun q h1 h2 => h q (by omega) (by omega))
    rw [oStep_apply i ids es e j hj hlo hhi o r d] at e1
    rw [Finset.sum_eq_sum_Ico_succ_bot (by omega : j < j + (k + 1)), show j + (k + 1) = j + 1 + k by omega, ← add_assoc]
    exact e1

/-- The embedding's part of the entry of row `v` at feature `d`: the sum over all ids that name `v` of their scaled rows. -/
def embAt (ids : S256.Idx → BitVec 32) (es : S256.Idx → Elt Ideal .f32) (ec : S256x1024.Idx → Elt Ideal .fp8e5m2) (v : ℕ) (d : Fin 1024) : EReal :=
  ∑ q : Fin 256, if Ids.idn ids q.val = v then (ec (ix2 q d) : EReal) * (es (ix1 q) : EReal) else 0

/-- A block after the body, at a row inside the array: the head's part and the embedding's. -/
theorem blk_apply (i : grid0.Coords) (ids : S256.Idx → BitVec 32) (ok : Ids.Ok ids) (es : S256.Idx → Elt Ideal .f32) (ec : S256x1024.Idx → Elt Ideal .fp8e5m2)
    (dl : S2x128x1024.Idx → Elt Ideal .fp8e5m2) (dls : S2x128x16.Idx → Elt Ideal .f32) (xs : S2x128.Idx → Elt Ideal .f32)
    (xc : S2x128x1024.Idx → Elt Ideal .fp8e4m3) (o : S1024x1024.Idx → Elt Ideal .f32) (r d : Fin 1024) (hin : 1024 * (i 0).val + r.val < 151936) :
    (blk (F := Ideal) i ids es dl (HX xs xc) (SC dls) (EM ec) o (ix2 r d) : EReal)
      = headAt (fun b s => dl (ix3 b s r)) dls xs xc ⟨(1024 * (i 0).val + r.val) / 9496, by omega⟩ d + embAt ids es ec (1024 * (i 0).val + r.val) d := by
  have hc := Ids.cnt_mono ids (Nat.le_add_right (base i) 1024)
  have hc' := Ids.cnt_le ids (base i + 1024)
  unfold blk
  rw [oFrom_apply i ids es (EM ec) r d _ _ _ (fun q h1 h2 => by
      have hq : q < 256 := by omega
      exact ⟨hq, Ids.le_of_cnt_le ok h1 hq, Ids.lt_of_lt_cnt (by omega)⟩), tiles_apply i dl dls xs xc o r d hin]
  refine congrArg (fun b : EReal => headAt _ _ _ _ _ _ + b) ?_
  unfold embAt
  have hsub : ∑ q ∈ Finset.Ico (Ids.cnt ids (base i)) (Ids.cnt ids (base i) + (Ids.cnt ids (base i + 1024) - Ids.cnt ids (base i))), embTerm ids es (EM ec) (base i + r.val) d q
      = ∑ q ∈ Finset.range 256, embTerm ids es (EM ec) (base i + r.val) d q := by
    refine Finset.sum_subset (fun q hq => ?_) (fun q hq hn => ?_)
    · rw [Finset.mem_Ico] at hq; rw [Finset.mem_range]; omega
    · rw [Finset.mem_range] at hq
      unfold embTerm
      rw [dif_pos hq, if_neg]
      intro hv
      refine hn ?_
      rw [Finset.mem_Ico]
      have hr := r.isLt
      have a1 : ¬ q < Ids.cnt ids (base i) := fun h => by have := (Ids.lt_cnt_iff ok hq).1 h; omega
      have a2 : q < Ids.cnt ids (base i + 1024) := (Ids.lt_cnt_iff ok hq).2 (by omega)
      omega
  rw [hsub, Finset.sum_range]
  refine Finset.sum_congr rfl fun q _ => ?_
  unfold embTerm
  rw [dif_pos q.isLt]
  rfl

end Cert.Proof.KI

end
-- ==== Proof.KI.ValRun.lean ====
/-
  The kernel's run at extended reals, with its result: every row of the vocabulary ends with the head's part plus the scaled
  embedding rows of the ids that name it.
-/
module

public import proofs.«01_k».proof.Proof.KI.Frame
public import proofs.«01_k».proof.Proof.KI.LoopVal
public import Idealize.ShloMosaic.Lib.Pipeline.ValueKit

@[expose] public section

set_option maxRecDepth 16384

noncomputable section

namespace Cert.Proof.KI

open Cert.KernelIdeal Cert.KernelIdeal.Gen Cert.Proof

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR nD τ) ℕ

/-! ## The result -/

/-- The result array as a function of the seven arguments: row `v` at feature `d` is the head's part plus the embedding's. -/
def GVal (dl : S2x128x151936.Idx → Elt Ideal .fp8e5m2) (dls : S2x128x16.Idx → Elt Ideal .f32) (xc : S2x128x1024.Idx → Elt Ideal .fp8e4m3)
    (xs : S2x128.Idx → Elt Ideal .f32) (ec : S256x1024.Idx → Elt Ideal .fp8e5m2) (es : S256.Idx → Elt Ideal .f32) (ids : S256.Idx → BitVec 32) :
    S151936x1024.Idx → Elt Ideal .f32 := fun y =>
  let v : Fin 151936 := y 0; let d : Fin 1024 := y 1
  (headAt (fun b s => dl (ix3 b s v)) dls xs xc ⟨v.val / 9496, by omega⟩ d + embAt ids es ec v.val d : EReal)

variable (m : (ℓ : Loc nD τ sig) → Buf (Elt Ideal) ℓ) (ρ : Dev nD → PrngReg)

/-- The result array, of the arguments as launched. -/
def GArr (c : Dev nD) : S151936x1024.Idx → Elt Ideal .f32 := GVal (mDl m c) (mDls m c) (mXc m c) (mXs m c) (mEc m c) (mEs m c) (mIds m c)

/-- The scratch buffers hold what the first point fills them with. -/
def GoodV (c : Dev nD) (hx : S256x1024.Idx → Elt Ideal .bf16) (sc : S16x256.Idx → Elt Ideal .f32) (e : S256x1024.Idx → Elt Ideal .f32) : Prop :=
  hx = HX (mXs m c) (mXc m c) ∧ sc = SC (mDls m c) ∧ e = EM (mEc m c)

/-- The result's block at point `t`, zero past the array's end. -/
def outV (c : Dev nD) (t : Fin grid0.N) : S1024x1024.Idx → Elt Ideal .f32 :=
  win0_7.fill (grid0.coords t) (fun _ => (0 : EReal)) ((win0_7.blk t).view.read (Elt Ideal) (GArr m c))

/-! ## Where the blocks lie -/

theorem idx7 : ∀ t : Fin grid0.N, win0_7.index t = ![t.val, 0] := by decide +kernel
theorem idx2 : ∀ t : Fin grid0.N, win0_2.index t = ![0, 0, t.val] := by decide +kernel
theorem xs7 : ∀ t : Fin grid0.N, win0_7.xsize (grid0.coords t) 0 = min 1024 (151936 - 1024 * t.val) ∧ win0_7.xsize (grid0.coords t) 1 = 1024 := by decide +kernel
theorem xs2 : ∀ t : Fin grid0.N, win0_2.xsize (grid0.coords t) 0 = 2 ∧ win0_2.xsize (grid0.coords t) 1 = 128
    ∧ win0_2.xsize (grid0.coords t) 2 = min 1024 (151936 - 1024 * t.val) := by decide +kernel

/-- The gradient's block at a row inside the array is the array there. -/
theorem dlAt_apply (c : Dev nD) (t : Fin grid0.N) (d : S2x128x1024.Idx → Elt Ideal .fp8e5m2) (b : Fin 2) (s : Fin 128) (r : Fin 1024) (hin : 1024 * t.val + r.val < 151936) :
    dlAt m c t d (ix3 b s r) = mDl m c (ix3 b s ⟨1024 * t.val + r.val, hin⟩) := by
  obtain ⟨x0, x1, x2⟩ := xs2 t
  let j : (win0_2.xblock (grid0.coords t)).Idx := fun a => match a with
    | ⟨0, _⟩ => ⟨b.val, by show b.val < win0_2.xsize (grid0.coords t) 0; omega⟩
    | ⟨1, _⟩ => ⟨s.val, by show s.val < win0_2.xsize (grid0.coords t) 1; omega⟩
    | ⟨2, _⟩ => ⟨r.val, by show r.val < win0_2.xsize (grid0.coords t) 2; omega⟩
  have e : (ix3 b s r : S2x128x1024.Idx) = win0_2.xinj (grid0.coords t) j := by
    funext a; fin_cases a <;> rfl
  unfold dlAt
  rw [e]
  refine (win0_2.fill_xinj _ _ _ _).trans ?_
  refine congrArg (mDl m c) ?_
  have j0 : (j 0).val = b.val := rfl
  have j1 : (j 1).val = s.val := rfl
  have j2 : (j 2).val = r.val := rfl
  blk_ext [idx2 t, j0, j1, j2]

/-- What the body leaves of the result's block, on the part the transfers move. -/
theorem cut_blkAt (c : Dev nD) (ok : Ids.Ok (mIds m c)) (t : Fin grid0.N) (d : S2x128x1024.Idx → Elt Ideal .fp8e5m2) (hx : S256x1024.Idx → Elt Ideal .bf16)
    (sc : S16x256.Idx → Elt Ideal .f32) (e : S256x1024.Idx → Elt Ideal .f32) (hg : GoodV m c hx sc e) (o : S1024x1024.Idx → Elt Ideal .f32) :
    win0_7.cut (grid0.coords t) (blkAt m c t d hx sc e o) = win0_7.cut (grid0.coords t) (outV m c t) := by
  obtain ⟨rfl, rfl, rfl⟩ := hg
  refine Eq.trans ?_ (win0_7.cut_fill _ _ _).symm
  funext y
  obtain ⟨x0, x1⟩ := xs7 t
  have ht : t.val < 149 := lt_of_lt_of_eq t.isLt N_0
  have h0 : (y 0).val < win0_7.xsize (grid0.coords t) 0 := (y 0).isLt
  have h1 : (y 1).val < win0_7.xsize (grid0.coords t) 1 := (y 1).isLt
  have e : win0_7.xinj (grid0.coords t) y = (ix2 ⟨(y 0).val, by omega⟩ ⟨(y 1).val, by omega⟩ : S1024x1024.Idx) := by
    funext a; fin_cases a <;> rfl
  have e2 : (win0_7.blk t).view.emb y = (ix2 ⟨1024 * t.val + (y 0).val, by omega⟩ ⟨(y 1).val, by omega⟩ : S151936x1024.Idx) := by
    blk_ext [idx7 t]
  refine (congrArg (blkAt m c t d (HX (mXs m c) (mXc m c)) (SC (mDls m c)) (EM (mEc m c)) o) e).trans (Eq.trans ?_ (congrArg (GArr m c) e2).symm)
  have hin : 1024 * (grid0.coords t 0).val + (y 0).val < 151936 := by rw [coord_val]; omega
  refine (blk_apply (grid0.coords t) (mIds m c) ok (mEs m c) (mEc m c) (dlAt m c t d) (mDls m c) (mXs m c) (mXc m c) o ⟨(y 0).val, by omega⟩ ⟨(y 1).val, by omega⟩ hin).trans ?_
  have hd : (fun (b : Fin 2) (s : Fin 128) => (dlAt m c t d (ix3 b s ⟨(y 0).val, by omega⟩) : EReal)) = fun b s => mDl m c (ix3 b s ⟨1024 * t.val + (y 0).val, by omega⟩) := by
    funext b s
    exact dlAt_apply m c t d b s ⟨(y 0).val, by omega⟩ (by show 1024 * t.val + (y 0).val < 151936; omega)
  rw [hd]
  unfold GArr GVal
  simp only [coord_val]
  rfl

/-! ## The run -/

/-- The pipeline's data, with the result's blocks. -/
abbrev datsV : (p : Fin 1) → (c : Dev nD) → Dat τ (Elt Ideal) Unit ℕ (UR nD τ) ℕ (cfg0 (F := Ideal)) c := dats m (GoodV m) (outV m)

/-- The result's block, described only on the part the transfers move. -/
theorem owns_out (c : Dev nD) (ok : Ids.Ok (mIds m c)) (t : Fin grid0.N) (d : S2x128x1024.Idx → Elt Ideal .fp8e5m2) (hx : S256x1024.Idx → Elt Ideal .bf16)
    (sc : S16x256.Idx → Elt Ideal .f32) (e : S256x1024.Idx → Elt Ideal .f32) (hg : GoodV m c hx sc e) (o : S1024x1024.Idx → Elt Ideal .f32) :
    (owns (c : Thread nD τ) (st0_7 (F := Ideal) t) fullShare (blkAt m c t d hx sc e o) : sProp 𝕄)
      ⊢ owns (c : Thread nD τ) (st0_7 (F := Ideal) t) fullShare
        (win0_7.fill (grid0.coords t) (blkAt m c t d hx sc e o) (win0_7.cut (grid0.coords t) (outV m c t))) := by
  exact (congrArg (fun X => (owns (c : Thread nD τ) (st0_7 (F := Ideal) t) fullShare X : sProp 𝕄))
    (win0_7.fill_congr_cut (grid0.coords t) (cut_blkAt m c ok t d hx sc e hg o)).symm) ▸ BI.Entails.refl _

theorem owns_dl (c : Dev nD) (t : Fin grid0.N) (d : S2x128x1024.Idx → Elt Ideal .fp8e5m2) :
    (owns (c : Thread nD τ) (st0_2 (F := Ideal) t) fullShare (dlAt m c t d) : sProp 𝕄)
      ⊢ owns (c : Thread nD τ) (st0_2 (F := Ideal) t) fullShare (win0_2.fill (grid0.coords t) d (win0_2.cut (grid0.coords t) (dlAny m c t))) := by
  exact (congrArg (fun X => (owns (c : Thread nD τ) (st0_2 (F := Ideal) t) fullShare X : sProp 𝕄)) (fill_dlAny m c t d).symm) ▸ BI.Entails.refl _

/-- The body at a point, in the shape the library asks for. -/
theorem sound_bodyV (c : Dev nD) (ok : Ids.Ok (mIds m c)) (t : Fin (cfg0 (F := Ideal)).N) :
    iprop((datsV m 0 c).Φ t.castSucc ∗ (datsV m 0 c).owesAt () t.castSucc
      ∗ (∃ d, owns (c : Thread nD τ) (st0_0 t) fullShare ((datsV m 0 c).before 0 t d))
      ∗ (∃ d, owns (c : Thread nD τ) (st0_1 t) fullShare ((datsV m 0 c).before 1 t d))
      ∗ (∃ d, owns (c : Thread nD τ) (st0_2 t) fullShare ((datsV m 0 c).before 2 t d))
      ∗ (∃ d, owns (c : Thread nD τ) (st0_3 t) fullShare ((datsV m 0 c).before 3 t d))
      ∗ (∃ d, owns (c : Thread nD τ) (st0_4 t) fullShare ((datsV m 0 c).before 4 t d))
      ∗ (∃ d, owns (c : Thread nD τ) (st0_5 t) fullShare ((datsV m 0 c).before 5 t d))
      ∗ (∃ d, owns (c : Thread nD τ) (st0_6 t) fullShare ((datsV m 0 c).before 6 t d))
      ∗ (∃ d, owns (c : Thread nD τ) (st0_7 t) fullShare ((datsV m 0 c).before 7 t d)))
    ⊢ wp frame (wpE (defs₀ (F := Ideal)) 𝒱₀ (c : Thread nD τ) none) Set.univ (bodyAt0 t) (fun _ =>
      iprop((datsV m 0 c).Φ t.succ ∗ (datsV m 0 c).owesAt () t.succ
      ∗ owns (c : Thread nD τ) (st0_0 t) fullShare ((datsV m 0 c).after 0 t)
      ∗ owns (c : Thread nD τ) (st0_1 t) fullShare ((datsV m 0 c).after 1 t)
      ∗ (∃ d, owns (c : Thread nD τ) (st0_2 t) fullShare (win0_2.fill (grid0.coords t) d (win0_2.cut (grid0.coords t) ((datsV m 0 c).after 2 t))))
      ∗ owns (c : Thread nD τ) (st0_3 t) fullShare ((datsV m 0 c).after 3 t)
      ∗ owns (c : Thread nD τ) (st0_4 t) fullShare ((datsV m 0 c).after 4 t)
      ∗ owns (c : Thread nD τ) (st0_5 t) fullShare ((datsV m 0 c).after 5 t)
      ∗ owns (c : Thread nD τ) (st0_6 t) fullShare ((datsV m 0 c).after 6 t)
      ∗ (∃ d, owns (c : Thread nD τ) (st0_7 t) fullShare (win0_7.fill (grid0.coords t) d (win0_7.cut (grid0.coords t) ((datsV m 0 c).after 7 t)))))) := by
  simp only [before_0, before_1, before_2, before_3, before_4, before_5, before_6,
    after_0, after_1, after_2, after_3, after_4, after_5, after_6, after_7]
  rw [show (datsV m 0 c).Φ t.castSucc = PhiN m (GoodV m) c t.val from rfl,
    show (datsV m 0 c).Φ t.succ = PhiN m (GoodV m) c (t.val + 1) from rfl,
    show (datsV m 0 c).owesAt () t.succ = (datsV m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_at m (GoodV m) c ok (fun _ _ _ => ⟨hxFill_eq _ _ _, scFill_eq _ _, eFill_eq _ _⟩) t d2 ((datsV m 0 c).before 7 t d7) _)
  isplitl [HΦ H0 H1 H2 H3 H4 H5 H6 H7]
  · isplitl [HΦ]; · iexact HΦ
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro ⟨HΦ, H0, H1, H2, H3, H4, H5, H6, ⟨%hx, %sc, %e, %hg, H7⟩⟩
  isplitl [HΦ]; · iexact HΦ
  isplitl [Ho]; · iexact Ho
  isplitl [H0]; · iexact H0
  isplitl [H1]; · iexact H1
  isplitl [H2]
  · iexists d2; iapply (owns_dl m c t d2); iexact H2
  isplitl [H3]; · iexact H3
  isplitl [H4]; · iexact H4
  isplitl [H5]; · iexact H5
  isplitl [H6]; · iexact H6
  iexists _; iapply (owns_out m c ok t d2 hx sc e hg _); iexact H7

/-- The library's body obligation. -/
theorem body_obligationV (c : Dev nD) (ok : Ids.Ok (mIds m c)) :
    BodyObligationLoose (datsV m 0 c) (defs₀ (F := Ideal)) 𝒱₀ () Set.univ := fun t => by
  rw [bigSep_W0, bigSep_W0, defs₀_row]
  exact triple_restated (sound_bodyV m c ok t) rfl .rfl fun _ => .rfl

theorem phi_firstV (c : Dev nD) : iprop(emp ∗ Pipeline.scopedRest spec0 c) ⊢ (datsV m 0 c).Φ 0 := by
  rw [show (datsV m 0 c).Φ 0 = PhiN m (GoodV m) c 0 from rfl]
  iintro ⟨-, H⟩; iapply (phi_intro m (GoodV m) c); iexact H

theorem phi_lastV (c : Dev nD) : (datsV m 0 c).Φ (Fin.last (cfg0 (F := Ideal)).N)
    ⊢ iprop(emp ∗ Pipeline.ownSems0 (fun k : PEmpty => k.elim) c ∗ Pipeline.scopedRest spec0 c) := by
  rw [show (datsV m 0 c).Φ (Fin.last (cfg0 (F := Ideal)).N) = PhiN m (GoodV m) c (Fin.last (cfg0 (F := Ideal)).N).val from rfl]
  iintro H
  isplitr; · iempintro
  isplitr; · rw [Pipeline.ownSems0_none]; iempintro
  iapply (phi_exit m (GoodV m) c _); iexact H

/-- The blocks written back make up the result. -/
theorem final7 (c : Dev nD) : (datsV m 0 c).arrAt 7 (cfg0 (F := Ideal)).N = GArr m c := by
  refine (datsV m 0 c).arrAt_eq_of_covers 7 _ (by decide +kernel) fun t hf y => ?_
  rw [after_7]
  exact win0_7.fill_xinj (grid0.coords t) (fun _ => (0 : EReal)) ((win0_7.blk t).view.read (Elt Ideal) (GArr m c)) y

/-- THE VALUE: with the ids sorted and not negative, every weakly fair execution of the kernel ends, with the result array at
    `GArr` and the argument arrays unchanged. -/
theorem value (hok : ∀ c, Ids.Ok (mIds m c)) : θ_run defs (onTc (τ := τ) (main (F := Ideal))) ⟨m, fun _ => 0, ρ⟩ (fun r => ∀ c : Dev nD,
      r.2.mem ((c.tc : Thread nD τ).loc main_v0) = GArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_region_kit_quiescent cfgs (datsV m) () (0 : Fin 1) launch0 (Pipeline.OwnSemFacts.none _) EP defs₀ 𝒱₀ m ρ main
    (hbody := fun c => body_obligationV m c (hok c)) (hshare := fun c => (datsV m 0 c).share_full fun _ => rfl) (howed := fun _ _ => rfl)
    (G := fun _ => iprop(emp)) (u₀ := u₀ (F := Ideal))
    (hu₀ := by
      iintro H; imodintro
      isplitl [H]
      · iapply (show (ownU (u₀ (F := Ideal)) : sProp 𝕄) ⊢ BI.own (EP (Rounds.initOf (Pipeline.cells (cfgs (F := Ideal)) cellOf_inj) (Pipeline.launchToks (cfgs (F := Ideal)) cellOf_inj))) from BI.Entails.refl _); iexact H
      · rw [show (bigSep (Finset.univ : Finset (Dev nD)) (fun _ => (iprop(emp) : sProp 𝕄))) = BI.emp from bigSep_emp_const _]; iempintro)
    (V := fun c b => m ((c : Thread nD τ).loc b))
    (hmain := fun c Q => by
      simp only [main, Prog.lift, Prog.bind_op, Prog.bind_ret]
      iintro ⟨Hk, Hb⟩; iapply Hk; iexact Hb)
    (hA := fun _ _ => rfl)
    (X := fun _ => iprop(emp)) (Y := fun _ => iprop(emp)) (Z := fun _ => iprop(emp))
    (hX := fun c => by iintro -; imodintro; isplitr <;> iempintro)
    (hin := phi_firstV m) (hout := phi_lastV m)
    (QY := fun _ _ => True)
    (hY := fun c s' => by
      iintro ⟨-, -, HSI⟩; imodintro
      isplitr; · ipureintro; trivial
      iexact HSI)
    (hQ := fun s h hz => fun c => by
      have hw : ∀ w : Fin 8, (win0 w).isOut = false →
          s.mem ((c.tc : Thread nD τ).loc (Pipeline.arrRef spec0 w)) = m ((c.tc : Thread nD τ).loc (Pipeline.arrRef spec0 w)) := fun w hi =>
        ((h c).1 w).trans ((datsV m 0 c).arrAt_in w hi _)
      exact ⟨((h c).1 7).trans (final7 m c), hw 2 rfl, hw 3 rfl, hw 4 rfl, hw 5 rfl, hw 6 rfl, hw 1 rfl, hw 0 rfl⟩)

end Cert.Proof.KI

end
-- ==== Proof.R.Host.lean ====
/-
  The reference's host lines as one function of the decoded arrays and the arguments, and what that function is at an entry:
  the head's sum over tokens plus the sum of the scaled embedding rows whose id is the entry's row.
-/
module

public import proofs.«01_k».proof.Proof.Gen.ReferenceIdeal.Frame
public import proofs.«01_k».proof.Proof.KI.ValRun
public import Idealize.ShloMosaic.Lib.Pointwise
public import Idealize.ShloMosaic.Lib.Routing.OpsPair

@[expose] public section

set_option maxRecDepth 16384

noncomputable section

namespace Cert.Proof.R

open Cert.ReferenceIdeal Cert.ReferenceIdeal.Gen Cert.Proof

open Idealize.ShloMosaic
open Idealize.ShloMosaic.TcCoe Idealize.ShloMosaic.Tactic

/-- The gradient with its chunk scale multiplied in. -/
def gOf (dl : FVec Ideal S2x128x151936 .bf16) (dls : FVec Ideal S2x128x16 .f32) : FVec Ideal S2x128x151936 .bf16 :=
  shapeCast S2x128x151936 (mulf (F := Ideal) (φ := .bf16) (shapeCast S2x128x16x9496 dl shapeCasts_S2x128x151936_S2x128x16x9496)
    (broadcastInDim S2x128x16x9496 ![0, 1, 2, 3] bcast_S2x128x16x1_S2x128x16x9496_0_1_2_3
      (broadcastInDim S2x128x16x1 ![0, 1, 2] bcast_S2x128x16_S2x128x16x1_0_1_2 (truncf (F := Ideal) .bf16 dls bitsLt_bf16_f32))))
    shapeCasts_S2x128x16x9496_S2x128x151936

/-- The activations with their scale multiplied in. -/
def hxOf (xc : FVec Ideal S2x128x1024 .bf16) (xs : FVec Ideal S2x128 .f32) : FVec Ideal S2x128x1024 .bf16 :=
  mulf (F := Ideal) (φ := .bf16) xc (broadcastInDim S2x128x1024 ![0, 1, 2] bcast_S2x128x1_S2x128x1024_0_1_2
    (broadcastInDim S2x128x1 ![0, 1] bcast_S2x128_S2x128x1_0_1 (truncf (F := Ideal) .bf16 xs bitsLt_bf16_f32)))

/-- The embedding's rows with their scale multiplied in. -/
def eOf (ec : FVec Ideal S256x1024 .f32) (es : FVec Ideal S256 .f32) : FVec Ideal S256x1024 .f32 :=
  mulf (F := Ideal) (φ := .f32) ec (broadcastInDim S256x1024 ![0, 1] bcast_S256x1_S256x1024_0_1 (broadcastInDim S256x1 ![0] bcast_S256_S256x1_0 es))

/-- The embedding's rows added up by id, from zero. -/
def segOf (e : FVec Ideal S256x1024 .f32) (ids : IVec S256 32) : FVec Ideal S151936x1024 .f32 :=
  Host.scatterAdd (F := Ideal) (φ := .f32) scatter_S151936x1024_S256x1_S256x1024_1_0_0_1
    (broadcastInDim S151936x1024 ![] bcast_S_S151936x1024 (constant (F := Ideal) S_ .f32 0x00000000#32))
    (broadcastInDim S256x1 ![0] bcast_S256_S256x1_0 ids) e

/-- The result of the host lines. -/
def hostVal (dl : FVec Ideal S2x128x151936 .bf16) (dls : FVec Ideal S2x128x16 .f32) (xc : FVec Ideal S2x128x1024 .bf16)
    (xs : FVec Ideal S2x128 .f32) (ec : FVec Ideal S256x1024 .f32) (es : FVec Ideal S256 .f32) (ids : IVec S256 32) :
    FVec Ideal S151936x1024 .f32 :=
  addf (F := Ideal) (φ := .f32) (Host.dotGeneral (F := Ideal) (φ₁ := .bf16) (φ₂ := .bf16) dot_S2x128x151936_S2x128x1024_S151936x1024_01_01_2_2_n_n none (gOf dl dls) (hxOf xc xs))
    (segOf (eOf ec es) ids)

/-- The host lines leave `hostVal` of what they find. -/
theorem after_host (X : Valuation τ sig (Elt Ideal)) :
    StableHlo.after (hostOps1 (F := Ideal)) X (Proc.devRef .tc main_v18)
      = hostVal (X (Proc.devRef .tc main_v0_0)) (X (Proc.devRef .tc main_arg1)) (X (Proc.devRef .tc main_v0_1)) (X (Proc.devRef .tc main_arg3))
          (X (Proc.devRef .tc main_v0_2)) (X (Proc.devRef .tc main_arg5)) (X (Proc.devRef .tc main_arg6)) := by
  unfold hostOps1
  after_results
  rfl

/-! ## The pieces at an entry -/

theorem gOf_apply (dl : FVec Ideal S2x128x151936 .bf16) (dls : FVec Ideal S2x128x16 .f32) (b : Fin 2) (s : Fin 128) (v : Fin 151936) :
    (gOf dl dls (ix3 b s v) : EReal) = dl (ix3 b s v) * dls (ix3 b s ⟨v.val / 9496, by omega⟩) := by
  pointwise [gOf]

theorem hxOf_apply (xc : FVec Ideal S2x128x1024 .bf16) (xs : FVec Ideal S2x128 .f32) (b : Fin 2) (s : Fin 128) (d : Fin 1024) :
    (hxOf xc xs (ix3 b s d) : EReal) = xc (ix3 b s d) * xs (ix2 b s) := by
  pointwise [hxOf]

theorem eOf_apply (ec : FVec Ideal S256x1024 .f32) (es : FVec Ideal S256 .f32) (q : Fin 256) (d : Fin 1024) :
    (eOf ec es (ix2 q d) : EReal) = ec (ix2 q d) * es (ix1 q) := by
  pointwise [eOf]

/-- The scatter's dimension numbers. -/
abbrev D : ScatterDims S151936x1024 S256x1 S256x1024 := scatter_S151936x1024_S256x1_S256x1024_1_0_0_1

/-- Where an update lands: row `q`'s entry `d'` lands at `(v, d)` exactly when id `q`, read signed, is `v` and `d'` is `d`. -/
theorem lands (idx : IVec S256x1 32) (q : Fin 256) (d' : Fin 1024) (v : Fin 151936) (d : Fin 1024) :
    D.resultIdx? (ix2 q d' : S256x1024.Idx) idx = some (ix2 v d : S151936x1024.Idx) ↔ (idx (ix2 q 0)).toInt = (v.val : Int) ∧ d' = d := by
  have w0 : D.window (ix2 q d' : S256x1024.Idx) (0 : Fin 2) = 0 := rfl
  have w1 : D.window (ix2 q d' : S256x1024.Idx) (1 : Fin 2) = d'.val := rfl
  have s1 : D.start (ix2 q d' : S256x1024.Idx) idx (1 : Fin 2) = 0 := rfl
  have s0 : D.start (ix2 q d' : S256x1024.Idx) idx (0 : Fin 2) = (idx (ix2 q 0)).toInt := by
    refine Eq.trans (b := (idx (D.siIdx (ix2 q d' : S256x1024.Idx) ⟨0, by decide⟩)).toInt) rfl ?_
    refine congrArg (fun k => (idx k).toInt) ?_
    funext b
    fin_cases b
    · rfl
    · exact Subsingleton.elim (α := Fin 1) _ _
  rw [Routing.resultIdx?_eq_some]
  constructor
  · intro h
    have h0 := h (0 : Fin 2); have h1 := h (1 : Fin 2)
    rw [w0, s0] at h0; rw [w1, s1] at h1
    have e0 : ((ix2 v d : S151936x1024.Idx) (0 : Fin 2)).val = v.val := rfl
    have e1 : ((ix2 v d : S151936x1024.Idx) (1 : Fin 2)).val = d.val := rfl
    rw [e0] at h0; rw [e1] at h1
    exact ⟨by omega, Fin.ext (by omega)⟩
  · rintro ⟨h, rfl⟩ a
    fin_cases a
    · show D.start _ idx (0 : Fin 2) + (D.window _ (0 : Fin 2) : Int) = (v.val : Int)
      rw [w0, s0]; omega
    · show D.start _ idx (1 : Fin 2) + (D.window _ (1 : Fin 2) : Int) = (d'.val : Int)
      rw [w1, s1]; omega

/-- The rows added up by id, at an entry. -/
theorem segOf_apply (e : FVec Ideal S256x1024 .f32) (ids : IVec S256 32) (v : Fin 151936) (d : Fin 1024) :
    (segOf e ids (ix2 v d) : EReal) = ∑ q : Fin 256, if (ids (ix1 q)).toInt = (v.val : Int) then (e (ix2 q d) : EReal) else 0 := by
  have hb : ∀ q : Fin 256, broadcastInDim S256x1 ![0] bcast_S256_S256x1_0 ids (ix2 q 0) = ids (ix1 q) := fun q => by pointwise
  have h0 : (broadcastInDim S151936x1024 ![] bcast_S_S151936x1024 (constant (F := Ideal) S_ .f32 0x00000000#32) (ix2 v d) : EReal) = 0 := by pointwise
  refine Eq.trans (b := (broadcastInDim S151936x1024 ![] bcast_S_S151936x1024 (constant (F := Ideal) S_ .f32 0x00000000#32) (ix2 v d) : EReal)
    + ∑ j ∈ Finset.univ.filter (fun j => D.resultIdx? j (broadcastInDim S256x1 ![0] bcast_S256_S256x1_0 ids) = some (ix2 v d)), (e j : EReal)) rfl ?_
  rw [h0, zero_add, Finset.sum_filter, sum_idx2]
  refine Finset.sum_congr rfl fun q _ => ?_
  simp only [lands, hb]
  by_cases h : (ids (ix1 q)).toInt = (v.val : Int)
  · simp only [h, true_and, if_true]
    rw [Finset.sum_ite_eq' Finset.univ d]
    simp
  · simp [h]

/-- The head's sum over tokens, at an entry. -/
theorem dot_apply (g : FVec Ideal S2x128x151936 .bf16) (hx : FVec Ideal S2x128x1024 .bf16) (v : Fin 151936) (d : Fin 1024) :
    (Host.dotGeneral (F := Ideal) (φ₁ := .bf16) (φ₂ := .bf16) dot_S2x128x151936_S2x128x1024_S151936x1024_01_01_2_2_n_n none g hx (ix2 v d) : EReal)
      = ∑ b : Fin 2, ∑ s : Fin 128, (g (ix3 b s v) : EReal) * hx (ix3 b s d) := by
  pointwise

/-- The host lines' result, of the codes and the scales: the same array as the kernel's. -/
theorem hostVal_eq (dl : FVec Ideal S2x128x151936 .bf16) (dls : FVec Ideal S2x128x16 .f32) (xc : FVec Ideal S2x128x1024 .bf16)
    (xs : FVec Ideal S2x128 .f32) (ec : FVec Ideal S256x1024 .f32) (es : FVec Ideal S256 .f32) (ids : IVec S256 32) (ok : Ids.Ok ids) :
    hostVal dl dls xc xs ec es ids = KI.GVal dl dls xc xs ec es ids := by
  funext y
  obtain ⟨v, d, rfl⟩ : ∃ (v : Fin 151936) (d : Fin 1024), y = ix2 v d := ⟨y 0, y 1, eq_ix2 y⟩
  refine Eq.trans (b := ((Host.dotGeneral (F := Ideal) (φ₁ := .bf16) (φ₂ := .bf16) dot_S2x128x151936_S2x128x1024_S151936x1024_01_01_2_2_n_n none (gOf dl dls) (hxOf xc xs) (ix2 v d) : EReal)
    + segOf (eOf ec es) ids (ix2 v d))) rfl ?_
  refine congrArg₂ (fun a b : EReal => a + b) ?_ ?_
  · rw [dot_apply, Fin.sum_univ_two]
    simp only [gOf_apply, hxOf_apply]
    rfl
  · rw [segOf_apply]
    refine Finset.sum_congr rfl fun q _ => ?_
    rw [eOf_apply]
    have hid : Ids.idn ids q.val = (ids (ix1 q)).toNat :=
      (Ids.idn_of_lt ids q.val q.isLt).trans (congrArg (fun k => (ids k).toNat) (by funext a; fin_cases a; rfl))
    have hn := ok.nonneg q.val q.isLt
    rw [hid] at hn ⊢
    have hi : (ids (ix1 q)).toInt = ((ids (ix1 q)).toNat : Int) := BitVec.toInt_eq_toNat_of_lt (by omega)
    rw [hi]
    exact if_congr Int.ofNat_inj rfl rfl

end Cert.Proof.R

end
-- ==== Proof.R.Run.lean ====
/-
  The reference's run at extended reals, with its result.
-/
module

public import proofs.«01_k».proof.Proof.R.Host
public import Idealize.ShloMosaic.Lib.Pipeline.ValueKit

@[expose] public section

set_option maxRecDepth 16384

noncomputable section

namespace Cert.Proof.R

open Cert.ReferenceIdeal Cert.ReferenceIdeal.Gen Cert.Proof

open Idealize.ShloMosaic
open Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-! ## The decoded arrays -/

/-- Each window is one block, at the array's start. -/
theorem ixs : ∀ t : Fin grid0.N, win0_0.index t = ![0, 0, 0] ∧ win0_1.index t = ![0, 0, 0] ∧ win0_2.index t = ![0, 0]
    ∧ win0_3.index t = ![0, 0, 0] ∧ win0_4.index t = ![0, 0, 0] ∧ win0_5.index t = ![0, 0] := by decide +kernel

/-- The decoded gradient is the gradient's codes' values. -/
theorem dec3 (c : Dev nD) : (dats m 0 c).arrAt 3 cfg0.N = (m ((c.tc : Thread nD τ).loc main_arg0) : FVec Ideal S2x128x151936 .bf16) := by
  refine (dats m 0 c).arrAt_eq_of_covers 3 _ (by decide +kernel) fun t hf y => ?_
  obtain ⟨h0, h1, h2, h3, h4, h5⟩ := ixs t
  blk_simp
  rw [after0_3]
  frame_out
  pointwise [k0_pay1]
  blk_ext [iblk, V, h0, h3]

/-- The decoded activations are their codes' values. -/
theorem dec4 (c : Dev nD) : (dats m 0 c).arrAt 4 cfg0.N = (m ((c.tc : Thread nD τ).loc main_arg2) : FVec Ideal S2x128x1024 .bf16) := by
  refine (dats m 0 c).arrAt_eq_of_covers 4 _ (by decide +kernel) fun t hf y => ?_
  obtain ⟨h0, h1, h2, h3, h4, h5⟩ := ixs t
  blk_simp
  rw [after0_4]
  frame_out
  pointwise [k0_pay2]
  blk_ext [iblk, V, h1, h4]

/-- The decoded embedding gradient is its codes' values. -/
theorem dec5 (c : Dev nD) : (dats m 0 c).arrAt 5 cfg0.N = (m ((c.tc : Thread nD τ).loc main_arg4) : FVec Ideal S256x1024 .f32) := by
  refine (dats m 0 c).arrAt_eq_of_covers 5 _ (by decide +kernel) fun t hf y => ?_
  obtain ⟨h0, h1, h2, h3, h4, h5⟩ := ixs t
  blk_simp
  rw [after0_5]
  frame_out
  pointwise [k0_pay3]
  blk_ext [iblk, V, h2, h5]

/-! ## The run -/

/-- What the host lines leave in the result, of the arguments as launched. -/
theorem tail (c : Dev nD) (ok : Ids.Ok (m ((c.tc : Thread nD τ).loc main_arg6) : IVec S256 32)) :
    Pipeline.afterTail₀ cfgs (dats m) 0 (V0 m) [hostOps1] c main_v18
      = KI.GVal (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  unfold Pipeline.afterTail₀
  generalize hX : (Pipeline.withArrays (cfgs 0).spec c (V0 m c) fun w => (dats m 0 c).arrAt w (cfgs 0).N) = X
  have x0 : X (Proc.devRef .tc main_v0_0) = m ((c.tc : Thread nD τ).loc main_arg0) := by
    rw [← hX]; exact (Pipeline.withArrays_arr spec0 launch0.win.arr_inj c (V0 m c) _ 3).trans (dec3 m c)
  have x1 : X (Proc.devRef .tc main_v0_1) = m ((c.tc : Thread nD τ).loc main_arg2) := by
    rw [← hX]; exact (Pipeline.withArrays_arr spec0 launch0.win.arr_inj c (V0 m c) _ 4).trans (dec4 m c)
  have x2 : X (Proc.devRef .tc main_v0_2) = m ((c.tc : Thread nD τ).loc main_arg4) := by
    rw [← hX]; exact (Pipeline.withArrays_arr spec0 launch0.win.arr_inj c (V0 m c) _ 5).trans (dec5 m c)
  have a1 : X (Proc.devRef .tc main_arg1) = m ((c.tc : Thread nD τ).loc main_arg1) := by
    rw [← hX]; exact Pipeline.withArrays_of_ne spec0 c (V0 m c) _ main_arg1 (by decide)
  have a3 : X (Proc.devRef .tc main_arg3) = m ((c.tc : Thread nD τ).loc main_arg3) := by
    rw [← hX]; exact Pipeline.withArrays_of_ne spec0 c (V0 m c) _ main_arg3 (by decide)
  have a5 : X (Proc.devRef .tc main_arg5) = m ((c.tc : Thread nD τ).loc main_arg5) := by
    rw [← hX]; exact Pipeline.withArrays_of_ne spec0 c (V0 m c) _ main_arg5 (by decide)
  have a6 : X (Proc.devRef .tc main_arg6) = m ((c.tc : Thread nD τ).loc main_arg6) := by
    rw [← hX]; exact Pipeline.withArrays_of_ne spec0 c (V0 m c) _ main_arg6 (by decide)
  refine (after_host X).trans ?_
  rw [x0, x1, x2, a1, a3, a5, a6]
  exact hostVal_eq _ _ _ _ _ _ _ ok

/-- THE VALUE: with the ids sorted and not negative, every weakly fair execution of the reference ends, with the result array at
    `GVal` of the arguments and the argument arrays unchanged. -/
theorem value (hok : ∀ c : Dev nD, Ids.Ok (m ((c.tc : Thread nD τ).loc main_arg6) : IVec S256 32)) :
    θ_run defs (onTc (τ := τ) (main (F := Ideal))) ⟨m, fun _ => 0, ρ⟩ (fun r => ∀ c : Dev nD,
      r.2.mem ((c.tc : Thread nD τ).loc main_v18)
        = KI.GVal (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.2 c).2 main_v18 (Pipeline.mem_restRefs_of main_v18 (by decide) (by decide))).trans (tail m c (hok c)), h.1 c⟩)
    (θ_run_and (unchanged m ρ) (run_main m ρ))

end Cert.Proof.R

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_ids_sorted
public import proofs.«01_k».proof.Proof.Lib.Pre
public import proofs.«01_k».proof.Proof.K.Run
public import proofs.«01_k».proof.Proof.KI.Frame
public import proofs.«01_k».proof.Proof.KI.ValRun
public import proofs.«01_k».proof.Proof.R.Run
public import Idealize.ShloMosaic.Adequacy
public import Idealize.ShloMosaic.Init

@[expose] public section

noncomputable section

namespace Cert.Proof

open Idealize.ShloMosaic Idealize.SL.Sem

/-- The kernel, at bits, runs to its end, leaves its arguments as they were and every semaphore counter at zero. -/
theorem kernel_frame : quiescent_Kernel := fun m g pre =>
  K.frame m g (fun c => Pre.ok_of_pre _ _ _ _ _ _ _ (pre c).1 (pre c).2)

/-- The kernel, at extended reals, runs to its end, leaves its arguments as they were and every semaphore counter at zero. -/
theorem kernelIdeal_frame : quiescent_KernelIdeal := fun m g pre =>
  KI.frame_run m g (fun c => Pre.ok_of_pre _ _ _ _ _ _ _ (pre c).1 (pre c).2)

/-- Over extended reals the kernel and the reference, on the same arguments, leave the same result array: `KI.GArr` of the arguments. -/
theorem same_result : algebraic_KernelIdeal_ReferenceIdeal := fun m g m' g' pre agree => by
  have ok : ∀ c, Ids.Ok (KI.mIds m c) := fun c => Pre.ok_of_pre _ _ _ _ _ _ _ (pre c).1 (pre c).2
  refine ⟨fun c => KI.GArr m c, KI.value m g ok, ?_⟩
  refine (θ_run _ _ _).mono (fun r h c => ⟨(h c).1.trans ?_, (h c).2⟩) (R.value m' g' fun c => ?_)
  · rw [(agree c).2.2.2.2.2.2]
    exact ok c
  · obtain ⟨e0, e1, e2, e3, e4, e5, e6⟩ := agree c
    rw [e0, e1, e2, e3, e4, e5, e6]
    rfl

/-- Every certificate claim holds. -/
theorem claim : Cert.Claim := ⟨Cert.Kernel.Gen.facts, Cert.KernelIdeal.Gen.facts, Cert.ReferenceIdeal.Gen.facts, Cert.Pre_ids_sorted.Gen.facts,
  kernel_frame, kernelIdeal_frame, fun m g _ => Cert.ReferenceIdeal.Gen.frame m g, fun m g _ => Cert.ReferenceIdeal.Gen.frame m g, trivial, same_result⟩

end Cert.Proof

end
